-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4096x256 : Shape := ⟨2, ![4096, 256]⟩
abbrev S6x256 : Shape := ⟨2, ![6, 256]⟩
abbrev S6 : Shape := ⟨1, ![6]⟩
abbrev S6x268 : Shape := ⟨2, ![6, 268]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S6x268 : S_.BroadcastsInDim S6x268 (![] : Fin 0 → Fin S6x268.rank)
  reducesTo_S6x268_S_d0_1 : S6x268.ReducesTo [0, 1] S_
  bcast_S_S6 : S_.BroadcastsInDim S6 (![] : Fin 0 → Fin S6.rank)
  reducesTo_S6_S_d0 : S6.ReducesTo [0] S_

variable [Facts]

def fn {F : FTy → Type} [FloatOps F] (main_arg0 : FVec F S4096x256 .f32) (main_arg1 : FVec F S6x256 .f32) (main_arg2 : FVec F S6 .f32) (main_arg3 : FVec F S6x256 .f32) (main_arg4 : FVec F S6 .f32) (main_arg5 : FVec F S6x268 .f32) (main_arg6 : FVec F S6 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S6x268 .f32 := Host.absf main_arg5
  let main_cst_0 : FVec F S_ .f32 := constant S_ .f32 0x7F800000#32
  let main_v5 : FVec F S6x268 .f32 := broadcastInDim S6x268 ![] bcast_S_S6x268 main_cst_0
  let main_v6 : IVec S6x268 1 := cmpf .olt main_v4 main_v5
  let main_c_1 : IVec S_ 1 := constantI S_ 1 1#1
  let main_v7 : IVec S_ 1 := (fun x v => Host.reduce IntOp.andi x v reducesTo_S6x268_S_d0_1 h_S_) main_v6 main_c_1
  let main_v8 : IVec S_ 1 := andi main_v3 main_v7
  let main_v9 : FVec F S6 .f32 := Host.absf main_arg6
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  main_v13
-- ==== Kernel.lean ====
abbrev S4096x256 : Shape := ⟨2, ![4096, 256]⟩
abbrev S6x256 : Shape := ⟨2, ![6, 256]⟩
abbrev S6 : Shape := ⟨1, ![6]⟩
abbrev S6x268 : Shape := ⟨2, ![6, 268]⟩
abbrev S216x9 : Shape := ⟨2, ![216, 9]⟩
abbrev S1x6 : Shape := ⟨2, ![1, 6]⟩
abbrev S4096x6 : Shape := ⟨2, ![4096, 6]⟩
abbrev S1024x256 : Shape := ⟨2, ![1024, 256]⟩
abbrev S1024x6 : Shape := ⟨2, ![1024, 6]⟩
abbrev S216x1024 : Shape := ⟨2, ![216, 1024]⟩
abbrev S2x8 : Shape := ⟨2, ![2, 8]⟩
abbrev S216x1 : Shape := ⟨2, ![216, 1]⟩
abbrev S1x1024 : Shape := ⟨2, ![1, 1024]⟩
abbrev S1x1 : Shape := ⟨2, ![1, 1]⟩
abbrev S6x1 : Shape := ⟨2, ![6, 1]⟩
abbrev S6x1024 : Shape := ⟨2, ![6, 1024]⟩
abbrev S1024 : Shape := ⟨1, ![1024]⟩
abbrev S6x8 : Shape := ⟨2, ![6, 8]⟩
abbrev S8 : Shape := ⟨1, ![8]⟩
abbrev S1x8 : Shape := ⟨2, ![1, 8]⟩
abbrev S18x1024 : Shape := ⟨2, ![18, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S6x256, .f32⟩
  | .hbm, ⟨2, _⟩ => ⟨S6, .f32⟩
  | .hbm, ⟨3, _⟩ => ⟨S6x256, .f32⟩
  | .hbm, ⟨4, _⟩ => ⟨S6, .f32⟩
  | .hbm, ⟨5, _⟩ => ⟨S6x268, .f32⟩
  | .hbm, ⟨6, _⟩ => ⟨S6, .f32⟩
  | .hbm, ⟨7, _⟩ => ⟨S216x9, .i32⟩
  | .hbm, ⟨8, _⟩ => ⟨S1x6, .f32⟩
  | .hbm, ⟨9, _⟩ => ⟨S1x6, .f32⟩
  | .hbm, ⟨10, _⟩ => ⟨S1x6, .f32⟩
  | .hbm, ⟨11, _⟩ => ⟨S4096x6, .f32⟩
  | .local _ .vmem, ⟨0, _⟩ => ⟨S1024x256, .f32⟩
  | .local _ .vmem, ⟨1, _⟩ => ⟨S1024x256, .f32⟩
  | .local _ .vmem, ⟨2, _⟩ => ⟨S216x9, .i32⟩
  | .local _ .vmem, ⟨3, _⟩ => ⟨S6x256, .f32⟩
  | .local _ .vmem, ⟨4, _⟩ => ⟨S1x6, .f32⟩
  | .local _ .vmem, ⟨5, _⟩ => ⟨S6x256, .f32⟩
  | .local _ .vmem, ⟨6, _⟩ => ⟨S1x6, .f32⟩
  | .local _ .vmem, ⟨7, _⟩ => ⟨S6x268, .f32⟩
  | .local _ .vmem, ⟨8, _⟩ => ⟨S1x6, .f32⟩
  | .local _ .vmem, ⟨9, _⟩ => ⟨S1024x6, .f32⟩
  | .local _ .vmem, ⟨10, _⟩ => ⟨S1024x6, .f32⟩
  | .local _ .vmem, ⟨11, _⟩ => ⟨S216x1024, .f32⟩
  | .local _ .vmem, ⟨12, _⟩ => ⟨S2x8, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S216x9 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x268 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x6 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x256 : Shape := ⟨2, ![4096, 256]⟩
abbrev S6x256 : Shape := ⟨2, ![6, 256]⟩
abbrev S6 : Shape := ⟨1, ![6]⟩
abbrev S6x268 : Shape := ⟨2, ![6, 268]⟩
abbrev S2 : Shape := ⟨1, ![2]⟩
abbrev S_ : Shape := ⟨0, ![]⟩
abbrev S1 : Shape := ⟨1, ![1]⟩
abbrev S2x1 : Shape := ⟨2, ![2, 1]⟩
abbrev S2x2 : Shape := ⟨2, ![2, 2]⟩
abbrev S18 : Shape := ⟨1, ![18]⟩
abbrev S1x18 : Shape := ⟨2, ![1, 18]⟩
abbrev S2x18 : Shape := ⟨2, ![2, 18]⟩
abbrev S2x18x1 : Shape := ⟨3, ![2, 18, 1]⟩
abbrev S2x18x2 : Shape := ⟨3, ![2, 18, 2]⟩
abbrev S4096x6 : Shape := ⟨2, ![4096, 6]⟩
abbrev S1x4096x6 : Shape := ⟨3, ![1, 4096, 6]⟩
abbrev S2x18x1x1 : Shape := ⟨4, ![2, 18, 1, 1]⟩
abbrev S1x1x4096x6 : Shape := ⟨4, ![1, 1, 4096, 6]⟩
abbrev S2x18x4096x6 : Shape := ⟨4, ![2, 18, 4096, 6]⟩
abbrev S256x6 : Shape := ⟨2, ![256, 6]⟩
abbrev S1x6 : Shape := ⟨2, ![1, 6]⟩
abbrev S4096 : Shape := ⟨1, ![4096]⟩
abbrev S4096x1 : Shape := ⟨2, ![4096, 1]⟩
abbrev S1x18x4096x6 : Shape := ⟨4, ![1, 18, 4096, 6]⟩
abbrev S18x4096x6 : Shape := ⟨3, ![18, 4096, 6]⟩
abbrev S18x4096 : Shape := ⟨2, ![18, 4096]⟩
abbrev S4096x18 : Shape := ⟨2, ![4096, 18]⟩
abbrev S4096x18x1 : Shape := ⟨3, ![4096, 18, 1]⟩
abbrev S4096x1x18 : Shape := ⟨3, ![4096, 1, 18]⟩
abbrev S4096x18x2 : Shape := ⟨3, ![4096, 18, 2]⟩
abbrev S4096x18x2x1 : Shape := ⟨4, ![4096, 18, 2, 1]⟩
abbrev S1x1x1x6 : Shape := ⟨4, ![1, 1, 1, 6]⟩
abbrev S4096x18x2x6 : Shape := ⟨4, ![4096, 18, 2, 6]⟩
abbrev S4096x18x12 : Shape := ⟨3, ![4096, 18, 12]⟩
abbrev S4096x1x256 : Shape := ⟨3, ![4096, 1, 256]⟩
abbrev S4096x18x256 : Shape := ⟨3, ![4096, 18, 256]⟩
abbrev S4096x18x268 : Shape := ⟨3, ![4096, 18, 268]⟩
abbrev S268x6 : Shape := ⟨2, ![268, 6]⟩
abbrev S4096x18x6 : Shape := ⟨3, ![4096, 18, 6]⟩
abbrev S1x1x6 : Shape := ⟨3, ![1, 1, 6]⟩
abbrev S4096x1x6 : Shape := ⟨3, ![4096, 1, 6]⟩

abbrev nBuf : Space → Nat
  | .hbm => 898
  | .vmem => 0
  | .smem => 0
  | _ => 0

abbrev hbmTy0_0 (i : Nat) : BufTy := match i % 128 with
  | 0 => ⟨S4096x256, .f32⟩
  | 1 => ⟨S6x256, .f32⟩
  | 2 => ⟨S6, .f32⟩
  | 3 => ⟨S6x256, .f32⟩
  | 4 => ⟨S6, .f32⟩
  | 5 => ⟨S6x268, .f32⟩
  | 6 => ⟨S6, .f32⟩
  | 7 => ⟨S2, .i32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .i32⟩
  | 19 => ⟨S2, .i32⟩
  | 20 => ⟨S2, .i32⟩
  | 21 => ⟨S2x1, .i32⟩
  | 22 => ⟨S_, .i32⟩
  | 23 => ⟨S2, .i32⟩
  | 24 => ⟨S2, .i32⟩
  | 25 => ⟨S2x1, .i32⟩
  | 26 => ⟨S2x2, .i32⟩
  | 27 => ⟨S1, .i32⟩
  | 28 => ⟨S_, .i32⟩
  | 29 => ⟨S1, .i32⟩
  | 30 => ⟨S_, .i32⟩
  | 31 => ⟨S2x1, .i32⟩
  | 32 => ⟨S2x1, .i32⟩
  | 33 => ⟨S_, .i32⟩
  | 34 => ⟨S_, .i32⟩
  | 35 => ⟨S_, .i32⟩
  | 36 => ⟨S2x1, .i32⟩
  | 37 => ⟨S2x1, .i32⟩
  | 38 => ⟨S2x1, .i32⟩
  | 39 => ⟨S2x1, .i32⟩
  | 40 => ⟨S2x1, .i32⟩
  | 41 => ⟨S_, .i32⟩
  | 42 => ⟨S2x1, .i32⟩
  | 43 => ⟨S2x1, .i32⟩
  | 44 => ⟨S_, .i32⟩
  | 45 => ⟨S2x1, .i32⟩
  | 46 => ⟨S2x1, .i32⟩
  | 47 => ⟨S2x1, .i32⟩
  | 48 => ⟨S2x1, .i32⟩
  | 49 => ⟨S2x1, .i32⟩
  | 50 => ⟨S_, .i32⟩
  | 51 => ⟨S2x1, .i32⟩
  | 52 => ⟨S2x1, .i32⟩
  | 53 => ⟨S_, .i32⟩
  | 54 => ⟨S2x1, .i32⟩
  | 55 => ⟨S2x1, .i32⟩
  | 56 => ⟨S2x1, .i32⟩
  | 57 => ⟨S2x1, .i32⟩
  | 58 => ⟨S2x1, .i32⟩
  | 59 => ⟨S_, .i32⟩
  | 60 => ⟨S2x1, .i32⟩
  | 61 => ⟨S2x1, .i32⟩
  | 62 => ⟨S_, .i32⟩
  | 63 => ⟨S2x1, .i32⟩
  | 64 => ⟨S2x1, .i32⟩
  | 65 => ⟨S2x1, .i32⟩
  | 66 => ⟨S2x1, .i32⟩
  | 67 => ⟨S2x1, .i32⟩
  | 68 => ⟨S_, .i32⟩
  | 69 => ⟨S2x1, .i32⟩
  | 70 => ⟨S2x1, .i32⟩
  | 71 => ⟨S_, .i32⟩
  | 72 => ⟨S2x1, .i32⟩
  | 73 => ⟨S2x1, .i32⟩
  | 74 => ⟨S2x1, .i32⟩
  | 75 => ⟨S2x1, .i32⟩
  | 76 => ⟨S2x1, .i32⟩
  | 77 => ⟨S2x1, .i32⟩
  | 78 => ⟨S2x1, .i32⟩
  | 79 => ⟨S2x1, .i32⟩
  | 80 => ⟨S_, .i32⟩
  | 81 => ⟨S2x1, .i32⟩
  | 82 => ⟨S2x1, .i32⟩
  | 83 => ⟨S2x1, .i32⟩
  | 84 => ⟨S_, .i32⟩
  | 85 => ⟨S2x1, .i32⟩
  | 86 => ⟨S2x1, .i32⟩
  | 87 => ⟨S_, .i32⟩
  | 88 => ⟨S2x1, .i32⟩
  | 89 => ⟨S2x1, .i32⟩
  | 90 => ⟨S2x1, .i32⟩
  | 91 => ⟨S2x1, .i32⟩
  | 92 => ⟨S2x1, .i32⟩
  | 93 => ⟨S_, .i32⟩
  | 94 => ⟨S2x1, .i32⟩
  | 95 => ⟨S2x1, .i32⟩
  | 96 => ⟨S_, .i32⟩
  | 97 => ⟨S2x1, .i32⟩
  | 98 => ⟨S2x1, .i32⟩
  | 99 => ⟨S2x1, .i32⟩
  | 100 => ⟨S2x1, .i32⟩
  | 101 => ⟨S2x1, .i32⟩
  | 102 => ⟨S_, .i32⟩
  | 103 => ⟨S2x1, .i32⟩
  | 104 => ⟨S2x1, .i32⟩
  | 105 => ⟨S_, .i32⟩
  | 106 => ⟨S2x1, .i32⟩
  | 107 => ⟨S2x1, .i32⟩
  | 108 => ⟨S2x1, .i32⟩
  | 109 => ⟨S2x1, .i32⟩
  | 110 => ⟨S2x1, .i32⟩
  | 111 => ⟨S_, .i32⟩
  | 112 => ⟨S2x1, .i32⟩
  | 113 => ⟨S2x1, .i32⟩
  | 114 => ⟨S_, .i32⟩
  | 115 => ⟨S2x1, .i32⟩
  | 116 => ⟨S2x1, .i32⟩
  | 117 => ⟨S2x1, .i32⟩
  | 118 => ⟨S2x1, .i32⟩
  | 119 => ⟨S2x1, .i32⟩
  | 120 => ⟨S2x1, .i32⟩
  | 121 => ⟨S2x1, .i32⟩
  | 122 => ⟨S2x1, .i32⟩
  | 123 => ⟨S_, .i32⟩
  | 124 => ⟨S2x1, .i32⟩
  | 125 => ⟨S2x1, .i32⟩
  | 126 => ⟨S2x1, .i32⟩
  | 127 => ⟨S_, .i32⟩
  | _ => ⟨S4096x256, .f32⟩

abbrev hbmTy0_1 (i : Nat) : BufTy := match i % 128 with
  | 0 => ⟨S2x1, .i32⟩
  | 1 => ⟨S2x1, .i32⟩
  | 2 => ⟨S_, .i32⟩
  | 3 => ⟨S2x1, .i32⟩
  | 4 => ⟨S2x1, .i32⟩
  | 5 => ⟨S2x1, .i32⟩
  | 6 => ⟨S2x1, .i32⟩
  | 7 => ⟨S2x1, .i32⟩
  | 8 => ⟨S_, .i32⟩
  | 9 => ⟨S2x1, .i32⟩
  | 10 => ⟨S2x1, .i32⟩
  | 11 => ⟨S_, .i32⟩
  | 12 => ⟨S2x1, .i32⟩
  | 13 => ⟨S2x1, .i32⟩
  | 14 => ⟨S2x1, .i32⟩
  | 15 => ⟨S2x1, .i32⟩
  | 16 => ⟨S2x1, .i32⟩
  | 17 => ⟨S_, .i32⟩
  | 18 => ⟨S2x1, .i32⟩
  | 19 => ⟨S2x1, .i32⟩
  | 20 => ⟨S_, .i32⟩
  | 21 => ⟨S2x1, .i32⟩
  | 22 => ⟨S2x1, .i32⟩
  | 23 => ⟨S2x1, .i32⟩
  | 24 => ⟨S2x1, .i32⟩
  | 25 => ⟨S2x1, .i32⟩
  | 26 => ⟨S_, .i32⟩
  | 27 => ⟨S2x1, .i32⟩
  | 28 => ⟨S2x1, .i32⟩
  | 29 => ⟨S_, .i32⟩
  | 30 => ⟨S2x1, .i32⟩
  | 31 => ⟨S2x1, .i32⟩
  | 32 => ⟨S2x1, .i32⟩
  | 33 => ⟨S2x1, .i32⟩
  | 34 => ⟨S2x1, .i32⟩
  | 35 => ⟨S2x1, .i32⟩
  | 36 => ⟨S2x1, .i32⟩
  | 37 => ⟨S2x1, .i32⟩
  | 38 => ⟨S_, .i32⟩
  | 39 => ⟨S2x1, .i32⟩
  | 40 => ⟨S2x1, .i32⟩
  | 41 => ⟨S2x1, .i32⟩
  | 42 => ⟨S_, .i32⟩
  | 43 => ⟨S2x1, .i32⟩
  | 44 => ⟨S2x1, .i32⟩
  | 45 => ⟨S_, .i32⟩
  | 46 => ⟨S2x1, .i32⟩
  | 47 => ⟨S2x1, .i32⟩
  | 48 => ⟨S2x1, .i32⟩
  | 49 => ⟨S2x1, .i32⟩
  | 50 => ⟨S2x1, .i32⟩
  | 51 => ⟨S_, .i32⟩
  | 52 => ⟨S2x1, .i32⟩
  | 53 => ⟨S2x1, .i32⟩
  | 54 => ⟨S_, .i32⟩
  | 55 => ⟨S2x1, .i32⟩
  | 56 => ⟨S2x1, .i32⟩
  | 57 => ⟨S2x1, .i32⟩
  | 58 => ⟨S2x1, .i32⟩
  | 59 => ⟨S2x1, .i32⟩
  | 60 => ⟨S_, .i32⟩
  | 61 => ⟨S2x1, .i32⟩
  | 62 => ⟨S2x1, .i32⟩
  | 63 => ⟨S_, .i32⟩
  | 64 => ⟨S2x1, .i32⟩
  | 65 => ⟨S2x1, .i32⟩
  | 66 => ⟨S2x1, .i32⟩
  | 67 => ⟨S2x1, .i32⟩
  | 68 => ⟨S2x1, .i32⟩
  | 69 => ⟨S_, .i32⟩
  | 70 => ⟨S2x1, .i32⟩
  | 71 => ⟨S2x1, .i32⟩
  | 72 => ⟨S_, .i32⟩
  | 73 => ⟨S2x1, .i32⟩
  | 74 => ⟨S2x1, .i32⟩
  | 75 => ⟨S2x1, .i32⟩
  | 76 => ⟨S2x1, .i32⟩
  | 77 => ⟨S2x1, .i32⟩
  | 78 => ⟨S2x1, .i32⟩
  | 79 => ⟨S2x1, .i32⟩
  | 80 => ⟨S2x1, .i32⟩
  | 81 => ⟨S_, .i32⟩
  | 82 => ⟨S2x1, .i32⟩
  | 83 => ⟨S2x1, .i32⟩
  | 84 => ⟨S2x1, .i32⟩
  | 85 => ⟨S_, .i32⟩
  | 86 => ⟨S2x1, .i32⟩
  | 87 => ⟨S2x1, .i32⟩
  | 88 => ⟨S_, .i32⟩
  | 89 => ⟨S2x1, .i32⟩
  | 90 => ⟨S2x1, .i32⟩
  | 91 => ⟨S2x1, .i32⟩
  | 92 => ⟨S2x1, .i32⟩
  | 93 => ⟨S2x1, .i32⟩
  | 94 => ⟨S_, .i32⟩
  | 95 => ⟨S2x1, .i32⟩
  | 96 => ⟨S2x1, .i32⟩
  | 97 => ⟨S_, .i32⟩
  | 98 => ⟨S2x1, .i32⟩
  | 99 => ⟨S2x1, .i32⟩
  | 100 => ⟨S2x1, .i32⟩
  | 101 => ⟨S2x1, .i32⟩
  | 102 => ⟨S2x1, .i32⟩
  | 103 => ⟨S_, .i32⟩
  | 104 => ⟨S2x1, .i32⟩
  | 105 => ⟨S2x1, .i32⟩
  | 106 => ⟨S_, .i32⟩
  | 107 => ⟨S2x1, .i32⟩
  | 108 => ⟨S2x1, .i32⟩
  | 109 => ⟨S2x1, .i32⟩
  | 110 => ⟨S2x1, .i32⟩
  | 111 => ⟨S2x1, .i32⟩
  | 112 => ⟨S_, .i32⟩
  | 113 => ⟨S2x1, .i32⟩
  | 114 => ⟨S2x1, .i32⟩
  | 115 => ⟨S_, .i32⟩
  | 116 => ⟨S2x1, .i32⟩
  | 117 => ⟨S2x1, .i32⟩
  | 118 => ⟨S2x1, .i32⟩
  | 119 => ⟨S2x1, .i32⟩
  | 120 => ⟨S2x1, .i32⟩
  | 121 => ⟨S2x1, .i32⟩
  | 122 => ⟨S2x1, .i32⟩
  | 123 => ⟨S2x1, .i32⟩
  | 124 => ⟨S_, .i32⟩
  | 125 => ⟨S2x1, .i32⟩
  | 126 => ⟨S2x1, .i32⟩
  | 127 => ⟨S2x2, .i32⟩
  | _ => ⟨S4096x256, .f32⟩

abbrev hbmTy0_2 (i : Nat) : BufTy := match i % 128 with
  | 0 => ⟨S2x1, .i32⟩
  | 1 => ⟨S2, .i32⟩
  | 2 => ⟨S2x1, .i32⟩
  | 3 => ⟨S2, .i32⟩
  | 4 => ⟨S18, .i64⟩
  | 5 => ⟨S_, .i64⟩
  | 6 => ⟨S18, .i64⟩
  | 7 => ⟨S18, .i64⟩
  | 8 => ⟨S_, .i64⟩
  | 9 => ⟨S18, .i64⟩
  | 10 => ⟨S18, .i64⟩
  | 11 => ⟨S18, .i32⟩
  | 12 => ⟨S18, .i32⟩
  | 13 => ⟨S1x18, .i32⟩
  | 14 => ⟨S1x18, .i32⟩
  | 15 => ⟨S2x1, .i32⟩
  | 16 => ⟨S2x1, .i32⟩
  | 17 => ⟨S2x1, .i32⟩
  | 18 => ⟨S_, .i32⟩
  | 19 => ⟨S2x1, .i32⟩
  | 20 => ⟨S2x1, .i32⟩
  | 21 => ⟨S2x18, .i32⟩
  | 22 => ⟨S2x18, .i32⟩
  | 23 => ⟨S2x18, .i32⟩
  | 24 => ⟨S2x18, .i32⟩
  | 25 => ⟨S2x18, .i32⟩
  | 26 => ⟨S2x18, .i32⟩
  | 27 => ⟨S2x18, .i32⟩
  | 28 => ⟨S_, .i32⟩
  | 29 => ⟨S2x18, .i32⟩
  | 30 => ⟨S2x18, .i32⟩
  | 31 => ⟨S_, .i32⟩
  | 32 => ⟨S2x18, .i32⟩
  | 33 => ⟨S2x18, .i32⟩
  | 34 => ⟨S2x18, .i32⟩
  | 35 => ⟨S2x18, .i32⟩
  | 36 => ⟨S2x18, .i32⟩
  | 37 => ⟨S_, .i32⟩
  | 38 => ⟨S2x18, .i32⟩
  | 39 => ⟨S2x18, .i32⟩
  | 40 => ⟨S_, .i32⟩
  | 41 => ⟨S2x18, .i32⟩
  | 42 => ⟨S2x18, .i32⟩
  | 43 => ⟨S2x18, .i32⟩
  | 44 => ⟨S2x18, .i32⟩
  | 45 => ⟨S2x18, .i32⟩
  | 46 => ⟨S_, .i32⟩
  | 47 => ⟨S2x18, .i32⟩
  | 48 => ⟨S2x18, .i32⟩
  | 49 => ⟨S_, .i32⟩
  | 50 => ⟨S2x18, .i32⟩
  | 51 => ⟨S2x18, .i32⟩
  | 52 => ⟨S2x18, .i32⟩
  | 53 => ⟨S2x18, .i32⟩
  | 54 => ⟨S2x18, .i32⟩
  | 55 => ⟨S_, .i32⟩
  | 56 => ⟨S2x18, .i32⟩
  | 57 => ⟨S2x18, .i32⟩
  | 58 => ⟨S_, .i32⟩
  | 59 => ⟨S2x18, .i32⟩
  | 60 => ⟨S2x18, .i32⟩
  | 61 => ⟨S2x18, .i32⟩
  | 62 => ⟨S2x18, .i32⟩
  | 63 => ⟨S2x18, .i32⟩
  | 64 => ⟨S2x18, .i32⟩
  | 65 => ⟨S2x18, .i32⟩
  | 66 => ⟨S2x18, .i32⟩
  | 67 => ⟨S_, .i32⟩
  | 68 => ⟨S2x18, .i32⟩
  | 69 => ⟨S2x18, .i32⟩
  | 70 => ⟨S2x18, .i32⟩
  | 71 => ⟨S_, .i32⟩
  | 72 => ⟨S2x18, .i32⟩
  | 73 => ⟨S2x18, .i32⟩
  | 74 => ⟨S_, .i32⟩
  | 75 => ⟨S2x18, .i32⟩
  | 76 => ⟨S2x18, .i32⟩
  | 77 => ⟨S2x18, .i32⟩
  | 78 => ⟨S2x18, .i32⟩
  | 79 => ⟨S2x18, .i32⟩
  | 80 => ⟨S_, .i32⟩
  | 81 => ⟨S2x18, .i32⟩
  | 82 => ⟨S2x18, .i32⟩
  | 83 => ⟨S_, .i32⟩
  | 84 => ⟨S2x18, .i32⟩
  | 85 => ⟨S2x18, .i32⟩
  | 86 => ⟨S2x18, .i32⟩
  | 87 => ⟨S2x18, .i32⟩
  | 88 => ⟨S2x18, .i32⟩
  | 89 => ⟨S_, .i32⟩
  | 90 => ⟨S2x18, .i32⟩
  | 91 => ⟨S2x18, .i32⟩
  | 92 => ⟨S_, .i32⟩
  | 93 => ⟨S2x18, .i32⟩
  | 94 => ⟨S2x18, .i32⟩
  | 95 => ⟨S2x18, .i32⟩
  | 96 => ⟨S2x18, .i32⟩
  | 97 => ⟨S2x18, .i32⟩
  | 98 => ⟨S_, .i32⟩
  | 99 => ⟨S2x18, .i32⟩
  | 100 => ⟨S2x18, .i32⟩
  | 101 => ⟨S_, .i32⟩
  | 102 => ⟨S2x18, .i32⟩
  | 103 => ⟨S2x18, .i32⟩
  | 104 => ⟨S2x18, .i32⟩
  | 105 => ⟨S2x18, .i32⟩
  | 106 => ⟨S2x18, .i32⟩
  | 107 => ⟨S2x18, .i32⟩
  | 108 => ⟨S2x18, .i32⟩
  | 109 => ⟨S2x18, .i32⟩
  | 110 => ⟨S_, .i32⟩
  | 111 => ⟨S2x18, .i32⟩
  | 112 => ⟨S2x18, .i32⟩
  | 113 => ⟨S2x18, .i32⟩
  | 114 => ⟨S_, .i32⟩
  | 115 => ⟨S2x18, .i32⟩
  | 116 => ⟨S2x18, .i32⟩
  | 117 => ⟨S_, .i32⟩
  | 118 => ⟨S2x18, .i32⟩
  | 119 => ⟨S2x18, .i32⟩
  | 120 => ⟨S2x18, .i32⟩
  | 121 => ⟨S2x18, .i32⟩
  | 122 => ⟨S2x18, .i32⟩
  | 123 => ⟨S_, .i32⟩
  | 124 => ⟨S2x18, .i32⟩
  | 125 => ⟨S2x18, .i32⟩
  | 126 => ⟨S_, .i32⟩
  | 127 => ⟨S2x18, .i32⟩
  | _ => ⟨S4096x256, .f32⟩

abbrev hbmTy0_3 (i : Nat) : BufTy := match i % 128 with
  | 0 => ⟨S2x18, .i32⟩
  | 1 => ⟨S2x18, .i32⟩
  | 2 => ⟨S2x18, .i32⟩
  | 3 => ⟨S2x18, .i32⟩
  | 4 => ⟨S_, .i32⟩
  | 5 => ⟨S2x18, .i32⟩
  | 6 => ⟨S2x18, .i32⟩
  | 7 => ⟨S_, .i32⟩
  | 8 => ⟨S2x18, .i32⟩
  | 9 => ⟨S2x18, .i32⟩
  | 10 => ⟨S2x18, .i32⟩
  | 11 => ⟨S2x18, .i32⟩
  | 12 => ⟨S2x18, .i32⟩
  | 13 => ⟨S_, .i32⟩
  | 14 => ⟨S2x18, .i32⟩
  | 15 => ⟨S2x18, .i32⟩
  | 16 => ⟨S_, .i32⟩
  | 17 => ⟨S2x18, .i32⟩
  | 18 => ⟨S2x18, .i32⟩
  | 19 => ⟨S2x18, .i32⟩
  | 20 => ⟨S2x18, .i32⟩
  | 21 => ⟨S2x18, .i32⟩
  | 22 => ⟨S2x18, .i32⟩
  | 23 => ⟨S2x18, .i32⟩
  | 24 => ⟨S2x18, .i32⟩
  | 25 => ⟨S_, .i32⟩
  | 26 => ⟨S2x18, .i32⟩
  | 27 => ⟨S2x18, .i32⟩
  | 28 => ⟨S2x18, .i32⟩
  | 29 => ⟨S_, .i32⟩
  | 30 => ⟨S2x18, .i32⟩
  | 31 => ⟨S2x18, .i32⟩
  | 32 => ⟨S_, .i32⟩
  | 33 => ⟨S2x18, .i32⟩
  | 34 => ⟨S2x18, .i32⟩
  | 35 => ⟨S2x18, .i32⟩
  | 36 => ⟨S2x18, .i32⟩
  | 37 => ⟨S2x18, .i32⟩
  | 38 => ⟨S_, .i32⟩
  | 39 => ⟨S2x18, .i32⟩
  | 40 => ⟨S2x18, .i32⟩
  | 41 => ⟨S_, .i32⟩
  | 42 => ⟨S2x18, .i32⟩
  | 43 => ⟨S2x18, .i32⟩
  | 44 => ⟨S2x18, .i32⟩
  | 45 => ⟨S2x18, .i32⟩
  | 46 => ⟨S2x18, .i32⟩
  | 47 => ⟨S_, .i32⟩
  | 48 => ⟨S2x18, .i32⟩
  | 49 => ⟨S2x18, .i32⟩
  | 50 => ⟨S_, .i32⟩
  | 51 => ⟨S2x18, .i32⟩
  | 52 => ⟨S2x18, .i32⟩
  | 53 => ⟨S2x18, .i32⟩
  | 54 => ⟨S2x18, .i32⟩
  | 55 => ⟨S2x18, .i32⟩
  | 56 => ⟨S_, .i32⟩
  | 57 => ⟨S2x18, .i32⟩
  | 58 => ⟨S2x18, .i32⟩
  | 59 => ⟨S_, .i32⟩
  | 60 => ⟨S2x18, .i32⟩
  | 61 => ⟨S2x18, .i32⟩
  | 62 => ⟨S2x18, .i32⟩
  | 63 => ⟨S2x18, .i32⟩
  | 64 => ⟨S2x18, .i32⟩
  | 65 => ⟨S2x18, .i32⟩
  | 66 => ⟨S2x18, .i32⟩
  | 67 => ⟨S2x18, .i32⟩
  | 68 => ⟨S_, .i32⟩
  | 69 => ⟨S2x18, .i32⟩
  | 70 => ⟨S2x18, .i32⟩
  | 71 => ⟨S2x18, .i32⟩
  | 72 => ⟨S_, .i32⟩
  | 73 => ⟨S2x18, .i32⟩
  | 74 => ⟨S2x18, .i32⟩
  | 75 => ⟨S_, .i32⟩
  | 76 => ⟨S2x18, .i32⟩
  | 77 => ⟨S2x18, .i32⟩
  | 78 => ⟨S2x18, .i32⟩
  | 79 => ⟨S2x18, .i32⟩
  | 80 => ⟨S2x18, .i32⟩
  | 81 => ⟨S_, .i32⟩
  | 82 => ⟨S2x18, .i32⟩
  | 83 => ⟨S2x18, .i32⟩
  | 84 => ⟨S_, .i32⟩
  | 85 => ⟨S2x18, .i32⟩
  | 86 => ⟨S2x18, .i32⟩
  | 87 => ⟨S2x18, .i32⟩
  | 88 => ⟨S2x18, .i32⟩
  | 89 => ⟨S2x18, .i32⟩
  | 90 => ⟨S_, .i32⟩
  | 91 => ⟨S2x18, .i32⟩
  | 92 => ⟨S2x18, .i32⟩
  | 93 => ⟨S_, .i32⟩
  | 94 => ⟨S2x18, .i32⟩
  | 95 => ⟨S2x18, .i32⟩
  | 96 => ⟨S2x18, .i32⟩
  | 97 => ⟨S2x18, .i32⟩
  | 98 => ⟨S2x18, .i32⟩
  | 99 => ⟨S_, .i32⟩
  | 100 => ⟨S2x18, .i32⟩
  | 101 => ⟨S2x18, .i32⟩
  | 102 => ⟨S_, .i32⟩
  | 103 => ⟨S2x18, .i32⟩
  | 104 => ⟨S2x18, .i32⟩
  | 105 => ⟨S2x18, .i32⟩
  | 106 => ⟨S2x18, .i32⟩
  | 107 => ⟨S2x18, .i32⟩
  | 108 => ⟨S2x18, .i32⟩
  | 109 => ⟨S2x18, .i32⟩
  | 110 => ⟨S2x18, .i32⟩
  | 111 => ⟨S_, .i32⟩
  | 112 => ⟨S2x18, .i32⟩
  | 113 => ⟨S2x18, .i32⟩
  | 114 => ⟨S2x18x1, .i32⟩
  | 115 => ⟨S2x18x1, .i32⟩
  | 116 => ⟨S2x18x2, .i32⟩
  | 117 => ⟨S2x18x1, .i32⟩
  | 118 => ⟨S2x18, .i32⟩
  | 119 => ⟨S2x18x1, .i32⟩
  | 120 => ⟨S2x18, .i32⟩
  | 121 => ⟨S4096x6, .i64⟩
  | 122 => ⟨S4096x6, .i64⟩
  | 123 => ⟨S_, .i64⟩
  | 124 => ⟨S4096x6, .i64⟩
  | 125 => ⟨S4096x6, .i64⟩
  | 126 => ⟨S_, .i64⟩
  | 127 => ⟨S4096x6, .i64⟩
  | _ => ⟨S4096x256, .f32⟩

abbrev hbmTy0_4 (i : Nat) : BufTy := match i % 128 with
  | 0 => ⟨S4096x6, .i64⟩
  | 1 => ⟨S4096x6, .i64⟩
  | 2 => ⟨S_, .i64⟩
  | 3 => ⟨S4096x6, .i64⟩
  | 4 => ⟨S4096x6, .i64⟩
  | 5 => ⟨S4096x6, .i32⟩
  | 6 => ⟨S4096x6, .i32⟩
  | 7 => ⟨S1x4096x6, .i32⟩
  | 8 => ⟨S1x4096x6, .i32⟩
  | 9 => ⟨S2x18x1x1, .i32⟩
  | 10 => ⟨S2x18x1x1, .i32⟩
  | 11 => ⟨S1x1x4096x6, .i32⟩
  | 12 => ⟨S1x1x4096x6, .i32⟩
  | 13 => ⟨S2x18x1x1, .i32⟩
  | 14 => ⟨S_, .i32⟩
  | 15 => ⟨S2x18x1x1, .i32⟩
  | 16 => ⟨S2x18x1x1, .i32⟩
  | 17 => ⟨S2x18x4096x6, .i32⟩
  | 18 => ⟨S2x18x4096x6, .i32⟩
  | 19 => ⟨S2x18x4096x6, .i32⟩
  | 20 => ⟨S2x18x4096x6, .i32⟩
  | 21 => ⟨S2x18x4096x6, .i32⟩
  | 22 => ⟨S2x18x4096x6, .i32⟩
  | 23 => ⟨S2x18x4096x6, .i32⟩
  | 24 => ⟨S_, .i32⟩
  | 25 => ⟨S2x18x4096x6, .i32⟩
  | 26 => ⟨S2x18x4096x6, .i32⟩
  | 27 => ⟨S_, .i32⟩
  | 28 => ⟨S2x18x4096x6, .i32⟩
  | 29 => ⟨S2x18x4096x6, .i32⟩
  | 30 => ⟨S2x18x4096x6, .i32⟩
  | 31 => ⟨S2x18x4096x6, .i32⟩
  | 32 => ⟨S2x18x4096x6, .i32⟩
  | 33 => ⟨S_, .i32⟩
  | 34 => ⟨S2x18x4096x6, .i32⟩
  | 35 => ⟨S2x18x4096x6, .i32⟩
  | 36 => ⟨S_, .i32⟩
  | 37 => ⟨S2x18x4096x6, .i32⟩
  | 38 => ⟨S2x18x4096x6, .i32⟩
  | 39 => ⟨S2x18x4096x6, .i32⟩
  | 40 => ⟨S2x18x4096x6, .i32⟩
  | 41 => ⟨S2x18x4096x6, .i32⟩
  | 42 => ⟨S_, .i32⟩
  | 43 => ⟨S2x18x4096x6, .i32⟩
  | 44 => ⟨S2x18x4096x6, .i32⟩
  | 45 => ⟨S_, .i32⟩
  | 46 => ⟨S2x18x4096x6, .i32⟩
  | 47 => ⟨S2x18x4096x6, .i32⟩
  | 48 => ⟨S2x18x4096x6, .i32⟩
  | 49 => ⟨S2x18x4096x6, .i32⟩
  | 50 => ⟨S2x18x4096x6, .i32⟩
  | 51 => ⟨S_, .i32⟩
  | 52 => ⟨S2x18x4096x6, .i32⟩
  | 53 => ⟨S2x18x4096x6, .i32⟩
  | 54 => ⟨S_, .i32⟩
  | 55 => ⟨S2x18x4096x6, .i32⟩
  | 56 => ⟨S2x18x4096x6, .i32⟩
  | 57 => ⟨S2x18x4096x6, .i32⟩
  | 58 => ⟨S2x18x4096x6, .i32⟩
  | 59 => ⟨S2x18x4096x6, .i32⟩
  | 60 => ⟨S2x18x4096x6, .i32⟩
  | 61 => ⟨S2x18x4096x6, .i32⟩
  | 62 => ⟨S2x18x4096x6, .i32⟩
  | 63 => ⟨S_, .i32⟩
  | 64 => ⟨S2x18x4096x6, .i32⟩
  | 65 => ⟨S2x18x4096x6, .i32⟩
  | 66 => ⟨S2x18x4096x6, .i32⟩
  | 67 => ⟨S_, .i32⟩
  | 68 => ⟨S2x18x4096x6, .i32⟩
  | 69 => ⟨S2x18x4096x6, .i32⟩
  | 70 => ⟨S_, .i32⟩
  | 71 => ⟨S2x18x4096x6, .i32⟩
  | 72 => ⟨S2x18x4096x6, .i32⟩
  | 73 => ⟨S2x18x4096x6, .i32⟩
  | 74 => ⟨S2x18x4096x6, .i32⟩
  | 75 => ⟨S2x18x4096x6, .i32⟩
  | 76 => ⟨S_, .i32⟩
  | 77 => ⟨S2x18x4096x6, .i32⟩
  | 78 => ⟨S2x18x4096x6, .i32⟩
  | 79 => ⟨S_, .i32⟩
  | 80 => ⟨S2x18x4096x6, .i32⟩
  | 81 => ⟨S2x18x4096x6, .i32⟩
  | 82 => ⟨S2x18x4096x6, .i32⟩
  | 83 => ⟨S2x18x4096x6, .i32⟩
  | 84 => ⟨S2x18x4096x6, .i32⟩
  | 85 => ⟨S_, .i32⟩
  | 86 => ⟨S2x18x4096x6, .i32⟩
  | 87 => ⟨S2x18x4096x6, .i32⟩
  | 88 => ⟨S_, .i32⟩
  | 89 => ⟨S2x18x4096x6, .i32⟩
  | 90 => ⟨S2x18x4096x6, .i32⟩
  | 91 => ⟨S2x18x4096x6, .i32⟩
  | 92 => ⟨S2x18x4096x6, .i32⟩
  | 93 => ⟨S2x18x4096x6, .i32⟩
  | 94 => ⟨S_, .i32⟩
  | 95 => ⟨S2x18x4096x6, .i32⟩
  | 96 => ⟨S2x18x4096x6, .i32⟩
  | 97 => ⟨S_, .i32⟩
  | 98 => ⟨S2x18x4096x6, .i32⟩
  | 99 => ⟨S2x18x4096x6, .i32⟩
  | 100 => ⟨S2x18x4096x6, .i32⟩
  | 101 => ⟨S2x18x4096x6, .i32⟩
  | 102 => ⟨S2x18x4096x6, .i32⟩
  | 103 => ⟨S2x18x4096x6, .i32⟩
  | 104 => ⟨S2x18x4096x6, .i32⟩
  | 105 => ⟨S2x18x4096x6, .i32⟩
  | 106 => ⟨S_, .i32⟩
  | 107 => ⟨S2x18x4096x6, .i32⟩
  | 108 => ⟨S2x18x4096x6, .i32⟩
  | 109 => ⟨S2x18x4096x6, .i32⟩
  | 110 => ⟨S_, .i32⟩
  | 111 => ⟨S2x18x4096x6, .i32⟩
  | 112 => ⟨S2x18x4096x6, .i32⟩
  | 113 => ⟨S_, .i32⟩
  | 114 => ⟨S2x18x4096x6, .i32⟩
  | 115 => ⟨S2x18x4096x6, .i32⟩
  | 116 => ⟨S2x18x4096x6, .i32⟩
  | 117 => ⟨S2x18x4096x6, .i32⟩
  | 118 => ⟨S2x18x4096x6, .i32⟩
  | 119 => ⟨S_, .i32⟩
  | 120 => ⟨S2x18x4096x6, .i32⟩
  | 121 => ⟨S2x18x4096x6, .i32⟩
  | 122 => ⟨S_, .i32⟩
  | 123 => ⟨S2x18x4096x6, .i32⟩
  | 124 => ⟨S2x18x4096x6, .i32⟩
  | 125 => ⟨S2x18x4096x6, .i32⟩
  | 126 => ⟨S2x18x4096x6, .i32⟩
  | 127 => ⟨S2x18x4096x6, .i32⟩
  | _ => ⟨S4096x256, .f32⟩

abbrev hbmTy0_5 (i : Nat) : BufTy := match i % 128 with
  | 0 => ⟨S_, .i32⟩
  | 1 => ⟨S2x18x4096x6, .i32⟩
  | 2 => ⟨S2x18x4096x6, .i32⟩
  | 3 => ⟨S_, .i32⟩
  | 4 => ⟨S2x18x4096x6, .i32⟩
  | 5 => ⟨S2x18x4096x6, .i32⟩
  | 6 => ⟨S2x18x4096x6, .i32⟩
  | 7 => ⟨S2x18x4096x6, .i32⟩
  | 8 => ⟨S2x18x4096x6, .i32⟩
  | 9 => ⟨S_, .i32⟩
  | 10 => ⟨S2x18x4096x6, .i32⟩
  | 11 => ⟨S2x18x4096x6, .i32⟩
  | 12 => ⟨S_, .i32⟩
  | 13 => ⟨S2x18x4096x6, .i32⟩
  | 14 => ⟨S2x18x4096x6, .i32⟩
  | 15 => ⟨S2x18x4096x6, .i32⟩
  | 16 => ⟨S2x18x4096x6, .i32⟩
  | 17 => ⟨S2x18x4096x6, .i32⟩
  | 18 => ⟨S2x18x4096x6, .i32⟩
  | 19 => ⟨S2x18x4096x6, .i32⟩
  | 20 => ⟨S2x18x4096x6, .i32⟩
  | 21 => ⟨S_, .i32⟩
  | 22 => ⟨S2x18x4096x6, .i32⟩
  | 23 => ⟨S2x18x4096x6, .i32⟩
  | 24 => ⟨S2x18x4096x6, .i32⟩
  | 25 => ⟨S_, .i32⟩
  | 26 => ⟨S2x18x4096x6, .i32⟩
  | 27 => ⟨S2x18x4096x6, .i32⟩
  | 28 => ⟨S_, .i32⟩
  | 29 => ⟨S2x18x4096x6, .i32⟩
  | 30 => ⟨S2x18x4096x6, .i32⟩
  | 31 => ⟨S2x18x4096x6, .i32⟩
  | 32 => ⟨S2x18x4096x6, .i32⟩
  | 33 => ⟨S2x18x4096x6, .i32⟩
  | 34 => ⟨S_, .i32⟩
  | 35 => ⟨S2x18x4096x6, .i32⟩
  | 36 => ⟨S2x18x4096x6, .i32⟩
  | 37 => ⟨S_, .i32⟩
  | 38 => ⟨S2x18x4096x6, .i32⟩
  | 39 => ⟨S2x18x4096x6, .i32⟩
  | 40 => ⟨S2x18x4096x6, .i32⟩
  | 41 => ⟨S2x18x4096x6, .i32⟩
  | 42 => ⟨S2x18x4096x6, .i32⟩
  | 43 => ⟨S_, .i32⟩
  | 44 => ⟨S2x18x4096x6, .i32⟩
  | 45 => ⟨S2x18x4096x6, .i32⟩
  | 46 => ⟨S_, .i32⟩
  | 47 => ⟨S2x18x4096x6, .i32⟩
  | 48 => ⟨S2x18x4096x6, .i32⟩
  | 49 => ⟨S2x18x4096x6, .i32⟩
  | 50 => ⟨S2x18x4096x6, .i32⟩
  | 51 => ⟨S2x18x4096x6, .i32⟩
  | 52 => ⟨S_, .i32⟩
  | 53 => ⟨S2x18x4096x6, .i32⟩
  | 54 => ⟨S2x18x4096x6, .i32⟩
  | 55 => ⟨S_, .i32⟩
  | 56 => ⟨S2x18x4096x6, .i32⟩
  | 57 => ⟨S2x18x4096x6, .i32⟩
  | 58 => ⟨S2x18x4096x6, .i32⟩
  | 59 => ⟨S2x18x4096x6, .i32⟩
  | 60 => ⟨S2x18x4096x6, .i32⟩
  | 61 => ⟨S2x18x4096x6, .i32⟩
  | 62 => ⟨S2x18x4096x6, .i32⟩
  | 63 => ⟨S2x18x4096x6, .i32⟩
  | 64 => ⟨S_, .i32⟩
  | 65 => ⟨S2x18x4096x6, .i32⟩
  | 66 => ⟨S2x18x4096x6, .i32⟩
  | 67 => ⟨S2x18x4096x6, .i32⟩
  | 68 => ⟨S_, .i32⟩
  | 69 => ⟨S2x18x4096x6, .i32⟩
  | 70 => ⟨S2x18x4096x6, .i32⟩
  | 71 => ⟨S_, .i32⟩
  | 72 => ⟨S2x18x4096x6, .i32⟩
  | 73 => ⟨S2x18x4096x6, .i32⟩
  | 74 => ⟨S2x18x4096x6, .i32⟩
  | 75 => ⟨S2x18x4096x6, .i32⟩
  | 76 => ⟨S2x18x4096x6, .i32⟩
  | 77 => ⟨S_, .i32⟩
  | 78 => ⟨S2x18x4096x6, .i32⟩
  | 79 => ⟨S2x18x4096x6, .i32⟩
  | 80 => ⟨S_, .i32⟩
  | 81 => ⟨S2x18x4096x6, .i32⟩
  | 82 => ⟨S2x18x4096x6, .i32⟩
  | 83 => ⟨S2x18x4096x6, .i32⟩
  | 84 => ⟨S2x18x4096x6, .i32⟩
  | 85 => ⟨S2x18x4096x6, .i32⟩
  | 86 => ⟨S_, .i32⟩
  | 87 => ⟨S2x18x4096x6, .i32⟩
  | 88 => ⟨S2x18x4096x6, .i32⟩
  | 89 => ⟨S_, .i32⟩
  | 90 => ⟨S2x18x4096x6, .i32⟩
  | 91 => ⟨S2x18x4096x6, .i32⟩
  | 92 => ⟨S2x18x4096x6, .i32⟩
  | 93 => ⟨S2x18x4096x6, .i32⟩
  | 94 => ⟨S2x18x4096x6, .i32⟩
  | 95 => ⟨S_, .i32⟩
  | 96 => ⟨S2x18x4096x6, .i32⟩
  | 97 => ⟨S2x18x4096x6, .i32⟩
  | 98 => ⟨S_, .i32⟩
  | 99 => ⟨S2x18x4096x6, .i32⟩
  | 100 => ⟨S2x18x4096x6, .i32⟩
  | 101 => ⟨S2x18x4096x6, .i32⟩
  | 102 => ⟨S2x18x4096x6, .i32⟩
  | 103 => ⟨S2x18x4096x6, .i32⟩
  | 104 => ⟨S2x18x4096x6, .i32⟩
  | 105 => ⟨S2x18x4096x6, .i32⟩
  | 106 => ⟨S2x18x4096x6, .i32⟩
  | 107 => ⟨S_, .i32⟩
  | 108 => ⟨S2x18x4096x6, .i32⟩
  | 109 => ⟨S2x18x4096x6, .i32⟩
  | 110 => ⟨S2x18x4096x6, .i32⟩
  | 111 => ⟨S_, .i32⟩
  | 112 => ⟨S2x18x4096x6, .i32⟩
  | 113 => ⟨S2x18x4096x6, .i32⟩
  | 114 => ⟨S_, .i32⟩
  | 115 => ⟨S2x18x4096x6, .i32⟩
  | 116 => ⟨S2x18x4096x6, .i32⟩
  | 117 => ⟨S2x18x4096x6, .f32⟩
  | 118 => ⟨S_, .f32⟩
  | 119 => ⟨S2x18x4096x6, .f32⟩
  | 120 => ⟨S2x18x4096x6, .f32⟩
  | 121 => ⟨S_, .f32⟩
  | 122 => ⟨S2x18x4096x6, .f32⟩
  | 123 => ⟨S2x18x4096x6, .f32⟩
  | 124 => ⟨S_, .f32⟩
  | 125 => ⟨S2x18x4096x6, .f32⟩
  | 126 => ⟨S2x18x4096x6, .f32⟩
  | 127 => ⟨S2x18x4096x6, .f32⟩
  | _ => ⟨S4096x256, .f32⟩

abbrev hbmTy0_6 (i : Nat) : BufTy := match i % 128 with
  | 0 => ⟨S2x18x4096x6, .f32⟩
  | 1 => ⟨S2x18x4096x6, .f32⟩
  | 2 => ⟨S2x18x4096x6, .f32⟩
  | 3 => ⟨S256x6, .f32⟩
  | 4 => ⟨S4096x6, .f32⟩
  | 5 => ⟨S1x6, .f32⟩
  | 6 => ⟨S4096x6, .f32⟩
  | 7 => ⟨S4096x6, .f32⟩
  | 8 => ⟨S_, .f32⟩
  | 9 => ⟨S4096, .f32⟩
  | 10 => ⟨S_, .f32⟩
  | 11 => ⟨S4096, .f32⟩
  | 12 => ⟨S4096, .f32⟩
  | 13 => ⟨S4096x1, .f32⟩
  | 14 => ⟨S4096x6, .f32⟩
  | 15 => ⟨S4096x6, .f32⟩
  | 16 => ⟨S4096x6, .f32⟩
  | 17 => ⟨S_, .f32⟩
  | 18 => ⟨S4096, .f32⟩
  | 19 => ⟨S4096x1, .f32⟩
  | 20 => ⟨S4096x6, .f32⟩
  | 21 => ⟨S4096x6, .f32⟩
  | 22 => ⟨S4096x6, .f32⟩
  | 23 => ⟨S1x18x4096x6, .f32⟩
  | 24 => ⟨S18x4096x6, .f32⟩
  | 25 => ⟨S1x4096x6, .f32⟩
  | 26 => ⟨S18x4096x6, .f32⟩
  | 27 => ⟨S18x4096x6, .f32⟩
  | 28 => ⟨S18x4096x6, .i32⟩
  | 29 => ⟨S_, .f32⟩
  | 30 => ⟨S_, .i32⟩
  | 31 => ⟨S18x4096, .f32⟩
  | 32 => ⟨S18x4096, .i32⟩
  | 33 => ⟨S4096x18, .i32⟩
  | 34 => ⟨S4096x1, .f32⟩
  | 35 => ⟨S4096, .f32⟩
  | 36 => ⟨S4096x18, .i32⟩
  | 37 => ⟨S_, .i32⟩
  | 38 => ⟨S4096x18, .i32⟩
  | 39 => ⟨S4096x18, .i1⟩
  | 40 => ⟨S_, .i32⟩
  | 41 => ⟨S4096x18, .i32⟩
  | 42 => ⟨S4096x18, .i32⟩
  | 43 => ⟨S4096x18, .i32⟩
  | 44 => ⟨S4096x18x1, .i32⟩
  | 45 => ⟨S4096x18, .f32⟩
  | 46 => ⟨S256x6, .f32⟩
  | 47 => ⟨S4096x6, .f32⟩
  | 48 => ⟨S1x6, .f32⟩
  | 49 => ⟨S4096x6, .f32⟩
  | 50 => ⟨S4096x6, .f32⟩
  | 51 => ⟨S_, .f32⟩
  | 52 => ⟨S4096, .f32⟩
  | 53 => ⟨S_, .f32⟩
  | 54 => ⟨S4096, .f32⟩
  | 55 => ⟨S4096, .f32⟩
  | 56 => ⟨S4096x1, .f32⟩
  | 57 => ⟨S4096x6, .f32⟩
  | 58 => ⟨S4096x6, .f32⟩
  | 59 => ⟨S4096x6, .f32⟩
  | 60 => ⟨S_, .f32⟩
  | 61 => ⟨S4096, .f32⟩
  | 62 => ⟨S4096x1, .f32⟩
  | 63 => ⟨S4096x6, .f32⟩
  | 64 => ⟨S4096x6, .f32⟩
  | 65 => ⟨S4096x6, .f32⟩
  | 66 => ⟨S1x18x4096x6, .f32⟩
  | 67 => ⟨S18x4096x6, .f32⟩
  | 68 => ⟨S1x4096x6, .f32⟩
  | 69 => ⟨S18x4096x6, .f32⟩
  | 70 => ⟨S18x4096x6, .f32⟩
  | 71 => ⟨S18x4096x6, .i32⟩
  | 72 => ⟨S_, .f32⟩
  | 73 => ⟨S_, .i32⟩
  | 74 => ⟨S18x4096, .f32⟩
  | 75 => ⟨S18x4096, .i32⟩
  | 76 => ⟨S4096x18, .i32⟩
  | 77 => ⟨S4096x1, .f32⟩
  | 78 => ⟨S4096, .f32⟩
  | 79 => ⟨S4096x18, .i32⟩
  | 80 => ⟨S_, .i32⟩
  | 81 => ⟨S4096x18, .i32⟩
  | 82 => ⟨S4096x18, .i1⟩
  | 83 => ⟨S_, .i32⟩
  | 84 => ⟨S4096x18, .i32⟩
  | 85 => ⟨S4096x18, .i32⟩
  | 86 => ⟨S4096x18, .i32⟩
  | 87 => ⟨S4096x18x1, .i32⟩
  | 88 => ⟨S4096x18, .f32⟩
  | 89 => ⟨S4096x18, .f32⟩
  | 90 => ⟨S_, .f32⟩
  | 91 => ⟨S4096, .f32⟩
  | 92 => ⟨S4096x1, .f32⟩
  | 93 => ⟨S4096x18, .f32⟩
  | 94 => ⟨S4096x18, .f32⟩
  | 95 => ⟨S4096x1x18, .f32⟩
  | 96 => ⟨S4096x18x1, .i32⟩
  | 97 => ⟨S4096x18x1, .i32⟩
  | 98 => ⟨S4096x18x2, .i32⟩
  | 99 => ⟨S4096x18x2x1, .i32⟩
  | 100 => ⟨S1x1x1x6, .i32⟩
  | 101 => ⟨S4096x18x2x6, .i32⟩
  | 102 => ⟨S4096x18x2x6, .i32⟩
  | 103 => ⟨S4096x18x2x6, .i1⟩
  | 104 => ⟨S4096x18x2x6, .f32⟩
  | 105 => ⟨S4096x18x12, .f32⟩
  | 106 => ⟨S4096x1x256, .f32⟩
  | 107 => ⟨S4096x18x256, .f32⟩
  | 108 => ⟨S4096x18x268, .f32⟩
  | 109 => ⟨S268x6, .f32⟩
  | 110 => ⟨S4096x18x6, .f32⟩
  | 111 => ⟨S1x1x6, .f32⟩
  | 112 => ⟨S4096x18x6, .f32⟩
  | 113 => ⟨S4096x18x6, .f32⟩
  | 114 => ⟨S_, .f32⟩
  | 115 => ⟨S4096x18, .f32⟩
  | 116 => ⟨S_, .f32⟩
  | 117 => ⟨S4096x18, .f32⟩
  | 118 => ⟨S4096x18, .f32⟩
  | 119 => ⟨S4096x18x1, .f32⟩
  | 120 => ⟨S4096x18x6, .f32⟩
  | 121 => ⟨S4096x18x6, .f32⟩
  | 122 => ⟨S4096x18x6, .f32⟩
  | 123 => ⟨S_, .f32⟩
  | 124 => ⟨S4096x18, .f32⟩
  | 125 => ⟨S4096x18x1, .f32⟩
  | 126 => ⟨S4096x18x6, .f32⟩
  | 127 => ⟨S4096x18x6, .f32⟩
  | _ => ⟨S4096x256, .f32⟩

abbrev hbmTy0_7 (i : Nat) : BufTy := match i % 128 with
  | 0 => ⟨S4096x1x6, .f32⟩
  | 1 => ⟨S4096x6, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_c_0 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_call0_v0 : Ref sig .tc := ⟨.hbm, 33, rfl⟩
abbrev main_call0_call0_c : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_c_0 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_c_1 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_call0_v12 : Ref sig .tc := ⟨.hbm, 48, rfl⟩
abbrev main_call0_call0_v13 : Ref sig .tc := ⟨.hbm, 49, rfl⟩
abbrev main_call0_call0_c_2 : Ref sig .tc := ⟨.hbm, 50, rfl⟩
abbrev main_call0_call0_v14 : Ref sig .tc := ⟨.hbm, 51, rfl⟩
abbrev main_call0_call0_v15 : Ref sig .tc := ⟨.hbm, 52, rfl⟩
abbrev main_call0_call0_c_3 : Ref sig .tc := ⟨.hbm, 53, rfl⟩
abbrev main_call0_call0_v16 : Ref sig .tc := ⟨.hbm, 54, rfl⟩
abbrev main_call0_call0_v17 : Ref sig .tc := ⟨.hbm, 55, rfl⟩
abbrev main_call0_call0_v18 : Ref sig .tc := ⟨.hbm, 56, rfl⟩
abbrev main_call0_call0_v19 : Ref sig .tc := ⟨.hbm, 57, rfl⟩
abbrev main_call0_call0_v20 : Ref sig .tc := ⟨.hbm, 58, rfl⟩
abbrev main_call0_call0_c_4 : Ref sig .tc := ⟨.hbm, 59, rfl⟩
abbrev main_call0_call0_v21 : Ref sig .tc := ⟨.hbm, 60, rfl⟩
abbrev main_call0_call0_v22 : Ref sig .tc := ⟨.hbm, 61, rfl⟩
abbrev main_call0_call0_c_5 : Ref sig .tc := ⟨.hbm, 62, rfl⟩
abbrev main_call0_call0_v23 : Ref sig .tc := ⟨.hbm, 63, rfl⟩
abbrev main_call0_call0_v24 : Ref sig .tc := ⟨.hbm, 64, rfl⟩
abbrev main_call0_call0_v25 : Ref sig .tc := ⟨.hbm, 65, rfl⟩
abbrev main_call0_call0_v26 : Ref sig .tc := ⟨.hbm, 66, rfl⟩
abbrev main_call0_call0_v27 : Ref sig .tc := ⟨.hbm, 67, rfl⟩
abbrev main_call0_call0_c_6 : Ref sig .tc := ⟨.hbm, 68, rfl⟩
abbrev main_call0_call0_v28 : Ref sig .tc := ⟨.hbm, 69, rfl⟩
abbrev main_call0_call0_v29 : Ref sig .tc := ⟨.hbm, 70, rfl⟩
abbrev main_call0_call0_c_7 : Ref sig .tc := ⟨.hbm, 71, rfl⟩
abbrev main_call0_call0_v30 : Ref sig .tc := ⟨.hbm, 72, rfl⟩
abbrev main_call0_call0_v31 : Ref sig .tc := ⟨.hbm, 73, rfl⟩
abbrev main_call0_call0_v32 : Ref sig .tc := ⟨.hbm, 74, rfl⟩
abbrev main_call0_call0_v33 : Ref sig .tc := ⟨.hbm, 75, rfl⟩
abbrev main_call0_call0_v34 : Ref sig .tc := ⟨.hbm, 76, rfl⟩
abbrev main_call0_call0_v35 : Ref sig .tc := ⟨.hbm, 77, rfl⟩
abbrev main_call0_call0_v36 : Ref sig .tc := ⟨.hbm, 78, rfl⟩
abbrev main_call0_call0_v37 : Ref sig .tc := ⟨.hbm, 79, rfl⟩
abbrev main_call0_call0_c_8 : Ref sig .tc := ⟨.hbm, 80, rfl⟩
abbrev main_call0_call0_v38 : Ref sig .tc := ⟨.hbm, 81, rfl⟩
abbrev main_call0_call0_v39 : Ref sig .tc := ⟨.hbm, 82, rfl⟩
abbrev main_call0_call0_v40 : Ref sig .tc := ⟨.hbm, 83, rfl⟩
abbrev main_call0_call0_c_9 : Ref sig .tc := ⟨.hbm, 84, rfl⟩
abbrev main_call0_call0_v41 : Ref sig .tc := ⟨.hbm, 85, rfl⟩
abbrev main_call0_call0_v42 : Ref sig .tc := ⟨.hbm, 86, rfl⟩
abbrev main_call0_call0_c_10 : Ref sig .tc := ⟨.hbm, 87, rfl⟩
abbrev main_call0_call0_v43 : Ref sig .tc := ⟨.hbm, 88, rfl⟩
abbrev main_call0_call0_v44 : Ref sig .tc := ⟨.hbm, 89, rfl⟩
abbrev main_call0_call0_v45 : Ref sig .tc := ⟨.hbm, 90, rfl⟩
abbrev main_call0_call0_v46 : Ref sig .tc := ⟨.hbm, 91, rfl⟩
abbrev main_call0_call0_v47 : Ref sig .tc := ⟨.hbm, 92, rfl⟩
abbrev main_call0_call0_c_11 : Ref sig .tc := ⟨.hbm, 93, rfl⟩
abbrev main_call0_call0_v48 : Ref sig .tc := ⟨.hbm, 94, rfl⟩
abbrev main_call0_call0_v49 : Ref sig .tc := ⟨.hbm, 95, rfl⟩
abbrev main_call0_call0_c_12 : Ref sig .tc := ⟨.hbm, 96, rfl⟩
abbrev main_call0_call0_v50 : Ref sig .tc := ⟨.hbm, 97, rfl⟩
abbrev main_call0_call0_v51 : Ref sig .tc := ⟨.hbm, 98, rfl⟩
abbrev main_call0_call0_v52 : Ref sig .tc := ⟨.hbm, 99, rfl⟩
abbrev main_call0_call0_v53 : Ref sig .tc := ⟨.hbm, 100, rfl⟩
abbrev main_call0_call0_v54 : Ref sig .tc := ⟨.hbm, 101, rfl⟩
abbrev main_call0_call0_c_13 : Ref sig .tc := ⟨.hbm, 102, rfl⟩
abbrev main_call0_call0_v55 : Ref sig .tc := ⟨.hbm, 103, rfl⟩
abbrev main_call0_call0_v56 : Ref sig .tc := ⟨.hbm, 104, rfl⟩
abbrev main_call0_call0_c_14 : Ref sig .tc := ⟨.hbm, 105, rfl⟩
abbrev main_call0_call0_v57 : Ref sig .tc := ⟨.hbm, 106, rfl⟩
abbrev main_call0_call0_v58 : Ref sig .tc := ⟨.hbm, 107, rfl⟩
abbrev main_call0_call0_v59 : Ref sig .tc := ⟨.hbm, 108, rfl⟩
abbrev main_call0_call0_v60 : Ref sig .tc := ⟨.hbm, 109, rfl⟩
abbrev main_call0_call0_v61 : Ref sig .tc := ⟨.hbm, 110, rfl⟩
abbrev main_call0_call0_c_15 : Ref sig .tc := ⟨.hbm, 111, rfl⟩
abbrev main_call0_call0_v62 : Ref sig .tc := ⟨.hbm, 112, rfl⟩
abbrev main_call0_call0_v63 : Ref sig .tc := ⟨.hbm, 113, rfl⟩
abbrev main_call0_call0_c_16 : Ref sig .tc := ⟨.hbm, 114, rfl⟩
abbrev main_call0_call0_v64 : Ref sig .tc := ⟨.hbm, 115, rfl⟩
abbrev main_call0_call0_v65 : Ref sig .tc := ⟨.hbm, 116, rfl⟩
abbrev main_call0_call0_v66 : Ref sig .tc := ⟨.hbm, 117, rfl⟩
abbrev main_call0_call0_v67 : Ref sig .tc := ⟨.hbm, 118, rfl⟩
abbrev main_call0_call0_v68 : Ref sig .tc := ⟨.hbm, 119, rfl⟩
abbrev main_call0_call0_v69 : Ref sig .tc := ⟨.hbm, 120, rfl⟩
abbrev main_call0_call0_v70 : Ref sig .tc := ⟨.hbm, 121, rfl⟩
abbrev main_call0_call0_v71 : Ref sig .tc := ⟨.hbm, 122, rfl⟩
abbrev main_call0_call0_c_17 : Ref sig .tc := ⟨.hbm, 123, rfl⟩
abbrev main_call0_call0_v72 : Ref sig .tc := ⟨.hbm, 124, rfl⟩
abbrev main_call0_call0_v73 : Ref sig .tc := ⟨.hbm, 125, rfl⟩
abbrev main_call0_call0_v74 : Ref sig .tc := ⟨.hbm, 126, rfl⟩
abbrev main_call0_call0_c_18 : Ref sig .tc := ⟨.hbm, 127, rfl⟩
abbrev main_call0_call0_v75 : Ref sig .tc := ⟨.hbm, 128, rfl⟩
abbrev main_call0_call0_v76 : Ref sig .tc := ⟨.hbm, 129, rfl⟩
abbrev main_call0_call0_c_19 : Ref sig .tc := ⟨.hbm, 130, rfl⟩
abbrev main_call0_call0_v77 : Ref sig .tc := ⟨.hbm, 131, rfl⟩
abbrev main_call0_call0_v78 : Ref sig .tc := ⟨.hbm, 132, rfl⟩
abbrev main_call0_call0_v79 : Ref sig .tc := ⟨.hbm, 133, rfl⟩
abbrev main_call0_call0_v80 : Ref sig .tc := ⟨.hbm, 134, rfl⟩
abbrev main_call0_call0_v81 : Ref sig .tc := ⟨.hbm, 135, rfl⟩
abbrev main_call0_call0_c_20 : Ref sig .tc := ⟨.hbm, 136, rfl⟩
abbrev main_call0_call0_v82 : Ref sig .tc := ⟨.hbm, 137, rfl⟩
abbrev main_call0_call0_v83 : Ref sig .tc := ⟨.hbm, 138, rfl⟩
abbrev main_call0_call0_c_21 : Ref sig .tc := ⟨.hbm, 139, rfl⟩
abbrev main_call0_call0_v84 : Ref sig .tc := ⟨.hbm, 140, rfl⟩
abbrev main_call0_call0_v85 : Ref sig .tc := ⟨.hbm, 141, rfl⟩
abbrev main_call0_call0_v86 : Ref sig .tc := ⟨.hbm, 142, rfl⟩
abbrev main_call0_call0_v87 : Ref sig .tc := ⟨.hbm, 143, rfl⟩
abbrev main_call0_call0_v88 : Ref sig .tc := ⟨.hbm, 144, rfl⟩
abbrev main_call0_call0_c_22 : Ref sig .tc := ⟨.hbm, 145, rfl⟩
abbrev main_call0_call0_v89 : Ref sig .tc := ⟨.hbm, 146, rfl⟩
abbrev main_call0_call0_v90 : Ref sig .tc := ⟨.hbm, 147, rfl⟩
abbrev main_call0_call0_c_23 : Ref sig .tc := ⟨.hbm, 148, rfl⟩
abbrev main_call0_call0_v91 : Ref sig .tc := ⟨.hbm, 149, rfl⟩
abbrev main_call0_call0_v92 : Ref sig .tc := ⟨.hbm, 150, rfl⟩
abbrev main_call0_call0_v93 : Ref sig .tc := ⟨.hbm, 151, rfl⟩
abbrev main_call0_call0_v94 : Ref sig .tc := ⟨.hbm, 152, rfl⟩
abbrev main_call0_call0_v95 : Ref sig .tc := ⟨.hbm, 153, rfl⟩
abbrev main_call0_call0_c_24 : Ref sig .tc := ⟨.hbm, 154, rfl⟩
abbrev main_call0_call0_v96 : Ref sig .tc := ⟨.hbm, 155, rfl⟩
abbrev main_call0_call0_v97 : Ref sig .tc := ⟨.hbm, 156, rfl⟩
abbrev main_call0_call0_c_25 : Ref sig .tc := ⟨.hbm, 157, rfl⟩
abbrev main_call0_call0_v98 : Ref sig .tc := ⟨.hbm, 158, rfl⟩
abbrev main_call0_call0_v99 : Ref sig .tc := ⟨.hbm, 159, rfl⟩
abbrev main_call0_call0_v100 : Ref sig .tc := ⟨.hbm, 160, rfl⟩
abbrev main_call0_call0_v101 : Ref sig .tc := ⟨.hbm, 161, rfl⟩
abbrev main_call0_call0_v102 : Ref sig .tc := ⟨.hbm, 162, rfl⟩
abbrev main_call0_call0_v103 : Ref sig .tc := ⟨.hbm, 163, rfl⟩
abbrev main_call0_call0_v104 : Ref sig .tc := ⟨.hbm, 164, rfl⟩
abbrev main_call0_call0_v105 : Ref sig .tc := ⟨.hbm, 165, rfl⟩
abbrev main_call0_call0_c_26 : Ref sig .tc := ⟨.hbm, 166, rfl⟩
abbrev main_call0_call0_v106 : Ref sig .tc := ⟨.hbm, 167, rfl⟩
abbrev main_call0_call0_v107 : Ref sig .tc := ⟨.hbm, 168, rfl⟩
abbrev main_call0_call0_v108 : Ref sig .tc := ⟨.hbm, 169, rfl⟩
abbrev main_call0_call0_c_27 : Ref sig .tc := ⟨.hbm, 170, rfl⟩
abbrev main_call0_call0_v109 : Ref sig .tc := ⟨.hbm, 171, rfl⟩
abbrev main_call0_call0_v110 : Ref sig .tc := ⟨.hbm, 172, rfl⟩
abbrev main_call0_call0_c_28 : Ref sig .tc := ⟨.hbm, 173, rfl⟩
abbrev main_call0_call0_v111 : Ref sig .tc := ⟨.hbm, 174, rfl⟩
abbrev main_call0_call0_v112 : Ref sig .tc := ⟨.hbm, 175, rfl⟩
abbrev main_call0_call0_v113 : Ref sig .tc := ⟨.hbm, 176, rfl⟩
abbrev main_call0_call0_v114 : Ref sig .tc := ⟨.hbm, 177, rfl⟩
abbrev main_call0_call0_v115 : Ref sig .tc := ⟨.hbm, 178, rfl⟩
abbrev main_call0_call0_c_29 : Ref sig .tc := ⟨.hbm, 179, rfl⟩
abbrev main_call0_call0_v116 : Ref sig .tc := ⟨.hbm, 180, rfl⟩
abbrev main_call0_call0_v117 : Ref sig .tc := ⟨.hbm, 181, rfl⟩
abbrev main_call0_call0_c_30 : Ref sig .tc := ⟨.hbm, 182, rfl⟩
abbrev main_call0_call0_v118 : Ref sig .tc := ⟨.hbm, 183, rfl⟩
abbrev main_call0_call0_v119 : Ref sig .tc := ⟨.hbm, 184, rfl⟩
abbrev main_call0_call0_v120 : Ref sig .tc := ⟨.hbm, 185, rfl⟩
abbrev main_call0_call0_v121 : Ref sig .tc := ⟨.hbm, 186, rfl⟩
abbrev main_call0_call0_v122 : Ref sig .tc := ⟨.hbm, 187, rfl⟩
abbrev main_call0_call0_c_31 : Ref sig .tc := ⟨.hbm, 188, rfl⟩
abbrev main_call0_call0_v123 : Ref sig .tc := ⟨.hbm, 189, rfl⟩
abbrev main_call0_call0_v124 : Ref sig .tc := ⟨.hbm, 190, rfl⟩
abbrev main_call0_call0_c_32 : Ref sig .tc := ⟨.hbm, 191, rfl⟩
abbrev main_call0_call0_v125 : Ref sig .tc := ⟨.hbm, 192, rfl⟩
abbrev main_call0_call0_v126 : Ref sig .tc := ⟨.hbm, 193, rfl⟩
abbrev main_call0_call0_v127 : Ref sig .tc := ⟨.hbm, 194, rfl⟩
abbrev main_call0_call0_v128 : Ref sig .tc := ⟨.hbm, 195, rfl⟩
abbrev main_call0_call0_v129 : Ref sig .tc := ⟨.hbm, 196, rfl⟩
abbrev main_call0_call0_c_33 : Ref sig .tc := ⟨.hbm, 197, rfl⟩
abbrev main_call0_call0_v130 : Ref sig .tc := ⟨.hbm, 198, rfl⟩
abbrev main_call0_call0_v131 : Ref sig .tc := ⟨.hbm, 199, rfl⟩
abbrev main_call0_call0_c_34 : Ref sig .tc := ⟨.hbm, 200, rfl⟩
abbrev main_call0_call0_v132 : Ref sig .tc := ⟨.hbm, 201, rfl⟩
abbrev main_call0_call0_v133 : Ref sig .tc := ⟨.hbm, 202, rfl⟩
abbrev main_call0_call0_v134 : Ref sig .tc := ⟨.hbm, 203, rfl⟩
abbrev main_call0_call0_v135 : Ref sig .tc := ⟨.hbm, 204, rfl⟩
abbrev main_call0_call0_v136 : Ref sig .tc := ⟨.hbm, 205, rfl⟩
abbrev main_call0_call0_v137 : Ref sig .tc := ⟨.hbm, 206, rfl⟩
abbrev main_call0_call0_v138 : Ref sig .tc := ⟨.hbm, 207, rfl⟩
abbrev main_call0_call0_v139 : Ref sig .tc := ⟨.hbm, 208, rfl⟩
abbrev main_call0_call0_c_35 : Ref sig .tc := ⟨.hbm, 209, rfl⟩
abbrev main_call0_call0_v140 : Ref sig .tc := ⟨.hbm, 210, rfl⟩
abbrev main_call0_call0_v141 : Ref sig .tc := ⟨.hbm, 211, rfl⟩
abbrev main_call0_call0_v142 : Ref sig .tc := ⟨.hbm, 212, rfl⟩
abbrev main_call0_call0_c_36 : Ref sig .tc := ⟨.hbm, 213, rfl⟩
abbrev main_call0_call0_v143 : Ref sig .tc := ⟨.hbm, 214, rfl⟩
abbrev main_call0_call0_v144 : Ref sig .tc := ⟨.hbm, 215, rfl⟩
abbrev main_call0_call0_c_37 : Ref sig .tc := ⟨.hbm, 216, rfl⟩
abbrev main_call0_call0_v145 : Ref sig .tc := ⟨.hbm, 217, rfl⟩
abbrev main_call0_call0_v146 : Ref sig .tc := ⟨.hbm, 218, rfl⟩
abbrev main_call0_call0_v147 : Ref sig .tc := ⟨.hbm, 219, rfl⟩
abbrev main_call0_call0_v148 : Ref sig .tc := ⟨.hbm, 220, rfl⟩
abbrev main_call0_call0_v149 : Ref sig .tc := ⟨.hbm, 221, rfl⟩
abbrev main_call0_call0_c_38 : Ref sig .tc := ⟨.hbm, 222, rfl⟩
abbrev main_call0_call0_v150 : Ref sig .tc := ⟨.hbm, 223, rfl⟩
abbrev main_call0_call0_v151 : Ref sig .tc := ⟨.hbm, 224, rfl⟩
abbrev main_call0_call0_c_39 : Ref sig .tc := ⟨.hbm, 225, rfl⟩
abbrev main_call0_call0_v152 : Ref sig .tc := ⟨.hbm, 226, rfl⟩
abbrev main_call0_call0_v153 : Ref sig .tc := ⟨.hbm, 227, rfl⟩
abbrev main_call0_call0_v154 : Ref sig .tc := ⟨.hbm, 228, rfl⟩
abbrev main_call0_call0_v155 : Ref sig .tc := ⟨.hbm, 229, rfl⟩
abbrev main_call0_call0_v156 : Ref sig .tc := ⟨.hbm, 230, rfl⟩
abbrev main_call0_call0_c_40 : Ref sig .tc := ⟨.hbm, 231, rfl⟩
abbrev main_call0_call0_v157 : Ref sig .tc := ⟨.hbm, 232, rfl⟩
abbrev main_call0_call0_v158 : Ref sig .tc := ⟨.hbm, 233, rfl⟩
abbrev main_call0_call0_c_41 : Ref sig .tc := ⟨.hbm, 234, rfl⟩
abbrev main_call0_call0_v159 : Ref sig .tc := ⟨.hbm, 235, rfl⟩
abbrev main_call0_call0_v160 : Ref sig .tc := ⟨.hbm, 236, rfl⟩
abbrev main_call0_call0_v161 : Ref sig .tc := ⟨.hbm, 237, rfl⟩
abbrev main_call0_call0_v162 : Ref sig .tc := ⟨.hbm, 238, rfl⟩
abbrev main_call0_call0_v163 : Ref sig .tc := ⟨.hbm, 239, rfl⟩
abbrev main_call0_call0_c_42 : Ref sig .tc := ⟨.hbm, 240, rfl⟩
abbrev main_call0_call0_v164 : Ref sig .tc := ⟨.hbm, 241, rfl⟩
abbrev main_call0_call0_v165 : Ref sig .tc := ⟨.hbm, 242, rfl⟩
abbrev main_call0_call0_c_43 : Ref sig .tc := ⟨.hbm, 243, rfl⟩
abbrev main_call0_call0_v166 : Ref sig .tc := ⟨.hbm, 244, rfl⟩
abbrev main_call0_call0_v167 : Ref sig .tc := ⟨.hbm, 245, rfl⟩
abbrev main_call0_call0_v168 : Ref sig .tc := ⟨.hbm, 246, rfl⟩
abbrev main_call0_call0_v169 : Ref sig .tc := ⟨.hbm, 247, rfl⟩
abbrev main_call0_call0_v170 : Ref sig .tc := ⟨.hbm, 248, rfl⟩
abbrev main_call0_v13_0 : Ref sig .tc := ⟨.hbm, 249, rfl⟩
abbrev main_call0_call0_v172 : Ref sig .tc := ⟨.hbm, 250, rfl⟩
abbrev main_call0_call0_v173 : Ref sig .tc := ⟨.hbm, 251, rfl⟩
abbrev main_call0_call0_c_44 : Ref sig .tc := ⟨.hbm, 252, rfl⟩
abbrev main_call0_call0_v174 : Ref sig .tc := ⟨.hbm, 253, rfl⟩
abbrev main_call0_v13_1 : Ref sig .tc := ⟨.hbm, 254, rfl⟩
abbrev main_v8 : Ref sig .tc := ⟨.hbm, 255, rfl⟩
abbrev main_call1_v0 : Ref sig .tc := ⟨.hbm, 256, rfl⟩
abbrev main_call1_v1 : Ref sig .tc := ⟨.hbm, 257, rfl⟩
abbrev main_call1_v2 : Ref sig .tc := ⟨.hbm, 258, rfl⟩
abbrev main_call1_v3 : Ref sig .tc := ⟨.hbm, 259, rfl⟩
abbrev main_call1_v4 : Ref sig .tc := ⟨.hbm, 260, rfl⟩
abbrev main_call1_c : Ref sig .tc := ⟨.hbm, 261, rfl⟩
abbrev main_call1_v5 : Ref sig .tc := ⟨.hbm, 262, rfl⟩
abbrev main_call1_v6 : Ref sig .tc := ⟨.hbm, 263, rfl⟩
abbrev main_call1_c_0 : Ref sig .tc := ⟨.hbm, 264, rfl⟩
abbrev main_call1_v7 : Ref sig .tc := ⟨.hbm, 265, rfl⟩
abbrev main_call1_v8 : Ref sig .tc := ⟨.hbm, 266, rfl⟩
abbrev main_call1_v9 : Ref sig .tc := ⟨.hbm, 267, rfl⟩
abbrev main_call1_v10 : Ref sig .tc := ⟨.hbm, 268, rfl⟩
abbrev main_call1_v11 : Ref sig .tc := ⟨.hbm, 269, rfl⟩
abbrev main_call1_v12 : Ref sig .tc := ⟨.hbm, 270, rfl⟩
abbrev main_call1_v13 : Ref sig .tc := ⟨.hbm, 271, rfl⟩
abbrev main_call1_v14 : Ref sig .tc := ⟨.hbm, 272, rfl⟩
abbrev main_call1_call0_v0 : Ref sig .tc := ⟨.hbm, 273, rfl⟩
abbrev main_call1_call0_c : Ref sig .tc := ⟨.hbm, 274, rfl⟩
abbrev main_call1_call0_v1 : Ref sig .tc := ⟨.hbm, 275, rfl⟩
abbrev main_call1_call0_v2 : Ref sig .tc := ⟨.hbm, 276, rfl⟩
abbrev main_call1_call0_v3 : Ref sig .tc := ⟨.hbm, 277, rfl⟩
abbrev main_call1_call0_v4 : Ref sig .tc := ⟨.hbm, 278, rfl⟩
abbrev main_call1_call0_v5 : Ref sig .tc := ⟨.hbm, 279, rfl⟩
abbrev main_call1_call0_v6 : Ref sig .tc := ⟨.hbm, 280, rfl⟩
abbrev main_call1_call0_v7 : Ref sig .tc := ⟨.hbm, 281, rfl⟩
abbrev main_call1_call0_v8 : Ref sig .tc := ⟨.hbm, 282, rfl⟩
abbrev main_call1_call0_v9 : Ref sig .tc := ⟨.hbm, 283, rfl⟩
abbrev main_call1_call0_c_0 : Ref sig .tc := ⟨.hbm, 284, rfl⟩
abbrev main_call1_call0_v10 : Ref sig .tc := ⟨.hbm, 285, rfl⟩
abbrev main_call1_call0_v11 : Ref sig .tc := ⟨.hbm, 286, rfl⟩
abbrev main_call1_call0_c_1 : Ref sig .tc := ⟨.hbm, 287, rfl⟩
abbrev main_call1_call0_v12 : Ref sig .tc := ⟨.hbm, 288, rfl⟩
abbrev main_call1_call0_v13 : Ref sig .tc := ⟨.hbm, 289, rfl⟩
abbrev main_call1_call0_v14 : Ref sig .tc := ⟨.hbm, 290, rfl⟩
abbrev main_call1_call0_v15 : Ref sig .tc := ⟨.hbm, 291, rfl⟩
abbrev main_call1_call0_v16 : Ref sig .tc := ⟨.hbm, 292, rfl⟩
abbrev main_call1_call0_c_2 : Ref sig .tc := ⟨.hbm, 293, rfl⟩
abbrev main_call1_call0_v17 : Ref sig .tc := ⟨.hbm, 294, rfl⟩
abbrev main_call1_call0_v18 : Ref sig .tc := ⟨.hbm, 295, rfl⟩
abbrev main_call1_call0_c_3 : Ref sig .tc := ⟨.hbm, 296, rfl⟩
abbrev main_call1_call0_v19 : Ref sig .tc := ⟨.hbm, 297, rfl⟩
abbrev main_call1_call0_v20 : Ref sig .tc := ⟨.hbm, 298, rfl⟩
abbrev main_call1_call0_v21 : Ref sig .tc := ⟨.hbm, 299, rfl⟩
abbrev main_call1_call0_v22 : Ref sig .tc := ⟨.hbm, 300, rfl⟩
abbrev main_call1_call0_v23 : Ref sig .tc := ⟨.hbm, 301, rfl⟩
abbrev main_call1_call0_c_4 : Ref sig .tc := ⟨.hbm, 302, rfl⟩
abbrev main_call1_call0_v24 : Ref sig .tc := ⟨.hbm, 303, rfl⟩
abbrev main_call1_call0_v25 : Ref sig .tc := ⟨.hbm, 304, rfl⟩
abbrev main_call1_call0_c_5 : Ref sig .tc := ⟨.hbm, 305, rfl⟩
abbrev main_call1_call0_v26 : Ref sig .tc := ⟨.hbm, 306, rfl⟩
abbrev main_call1_call0_v27 : Ref sig .tc := ⟨.hbm, 307, rfl⟩
abbrev main_call1_call0_v28 : Ref sig .tc := ⟨.hbm, 308, rfl⟩
abbrev main_call1_call0_v29 : Ref sig .tc := ⟨.hbm, 309, rfl⟩
abbrev main_call1_call0_v30 : Ref sig .tc := ⟨.hbm, 310, rfl⟩
abbrev main_call1_call0_c_6 : Ref sig .tc := ⟨.hbm, 311, rfl⟩
abbrev main_call1_call0_v31 : Ref sig .tc := ⟨.hbm, 312, rfl⟩
abbrev main_call1_call0_v32 : Ref sig .tc := ⟨.hbm, 313, rfl⟩
abbrev main_call1_call0_c_7 : Ref sig .tc := ⟨.hbm, 314, rfl⟩
abbrev main_call1_call0_v33 : Ref sig .tc := ⟨.hbm, 315, rfl⟩
abbrev main_call1_call0_v34 : Ref sig .tc := ⟨.hbm, 316, rfl⟩
abbrev main_call1_call0_v35 : Ref sig .tc := ⟨.hbm, 317, rfl⟩
abbrev main_call1_call0_v36 : Ref sig .tc := ⟨.hbm, 318, rfl⟩
abbrev main_call1_call0_v37 : Ref sig .tc := ⟨.hbm, 319, rfl⟩
abbrev main_call1_call0_v38 : Ref sig .tc := ⟨.hbm, 320, rfl⟩
abbrev main_call1_call0_v39 : Ref sig .tc := ⟨.hbm, 321, rfl⟩
abbrev main_call1_call0_v40 : Ref sig .tc := ⟨.hbm, 322, rfl⟩
abbrev main_call1_call0_c_8 : Ref sig .tc := ⟨.hbm, 323, rfl⟩
abbrev main_call1_call0_v41 : Ref sig .tc := ⟨.hbm, 324, rfl⟩
abbrev main_call1_call0_v42 : Ref sig .tc := ⟨.hbm, 325, rfl⟩
abbrev main_call1_call0_v43 : Ref sig .tc := ⟨.hbm, 326, rfl⟩
abbrev main_call1_call0_c_9 : Ref sig .tc := ⟨.hbm, 327, rfl⟩
abbrev main_call1_call0_v44 : Ref sig .tc := ⟨.hbm, 328, rfl⟩
abbrev main_call1_call0_v45 : Ref sig .tc := ⟨.hbm, 329, rfl⟩
abbrev main_call1_call0_c_10 : Ref sig .tc := ⟨.hbm, 330, rfl⟩
abbrev main_call1_call0_v46 : Ref sig .tc := ⟨.hbm, 331, rfl⟩
abbrev main_call1_call0_v47 : Ref sig .tc := ⟨.hbm, 332, rfl⟩
abbrev main_call1_call0_v48 : Ref sig .tc := ⟨.hbm, 333, rfl⟩
abbrev main_call1_call0_v49 : Ref sig .tc := ⟨.hbm, 334, rfl⟩
abbrev main_call1_call0_v50 : Ref sig .tc := ⟨.hbm, 335, rfl⟩
abbrev main_call1_call0_c_11 : Ref sig .tc := ⟨.hbm, 336, rfl⟩
abbrev main_call1_call0_v51 : Ref sig .tc := ⟨.hbm, 337, rfl⟩
abbrev main_call1_call0_v52 : Ref sig .tc := ⟨.hbm, 338, rfl⟩
abbrev main_call1_call0_c_12 : Ref sig .tc := ⟨.hbm, 339, rfl⟩
abbrev main_call1_call0_v53 : Ref sig .tc := ⟨.hbm, 340, rfl⟩
abbrev main_call1_call0_v54 : Ref sig .tc := ⟨.hbm, 341, rfl⟩
abbrev main_call1_call0_v55 : Ref sig .tc := ⟨.hbm, 342, rfl⟩
abbrev main_call1_call0_v56 : Ref sig .tc := ⟨.hbm, 343, rfl⟩
abbrev main_call1_call0_v57 : Ref sig .tc := ⟨.hbm, 344, rfl⟩
abbrev main_call1_call0_c_13 : Ref sig .tc := ⟨.hbm, 345, rfl⟩
abbrev main_call1_call0_v58 : Ref sig .tc := ⟨.hbm, 346, rfl⟩
abbrev main_call1_call0_v59 : Ref sig .tc := ⟨.hbm, 347, rfl⟩
abbrev main_call1_call0_c_14 : Ref sig .tc := ⟨.hbm, 348, rfl⟩
abbrev main_call1_call0_v60 : Ref sig .tc := ⟨.hbm, 349, rfl⟩
abbrev main_call1_call0_v61 : Ref sig .tc := ⟨.hbm, 350, rfl⟩
abbrev main_call1_call0_v62 : Ref sig .tc := ⟨.hbm, 351, rfl⟩
abbrev main_call1_call0_v63 : Ref sig .tc := ⟨.hbm, 352, rfl⟩
abbrev main_call1_call0_v64 : Ref sig .tc := ⟨.hbm, 353, rfl⟩
abbrev main_call1_call0_c_15 : Ref sig .tc := ⟨.hbm, 354, rfl⟩
abbrev main_call1_call0_v65 : Ref sig .tc := ⟨.hbm, 355, rfl⟩
abbrev main_call1_call0_v66 : Ref sig .tc := ⟨.hbm, 356, rfl⟩
abbrev main_call1_call0_c_16 : Ref sig .tc := ⟨.hbm, 357, rfl⟩
abbrev main_call1_call0_v67 : Ref sig .tc := ⟨.hbm, 358, rfl⟩
abbrev main_call1_call0_v68 : Ref sig .tc := ⟨.hbm, 359, rfl⟩
abbrev main_call1_call0_v69 : Ref sig .tc := ⟨.hbm, 360, rfl⟩
abbrev main_call1_call0_v70 : Ref sig .tc := ⟨.hbm, 361, rfl⟩
abbrev main_call1_call0_v71 : Ref sig .tc := ⟨.hbm, 362, rfl⟩
abbrev main_call1_call0_v72 : Ref sig .tc := ⟨.hbm, 363, rfl⟩
abbrev main_call1_call0_v73 : Ref sig .tc := ⟨.hbm, 364, rfl⟩
abbrev main_call1_call0_v74 : Ref sig .tc := ⟨.hbm, 365, rfl⟩
abbrev main_call1_call0_c_17 : Ref sig .tc := ⟨.hbm, 366, rfl⟩
abbrev main_call1_call0_v75 : Ref sig .tc := ⟨.hbm, 367, rfl⟩
abbrev main_call1_call0_v76 : Ref sig .tc := ⟨.hbm, 368, rfl⟩
abbrev main_call1_call0_v77 : Ref sig .tc := ⟨.hbm, 369, rfl⟩
abbrev main_call1_call0_c_18 : Ref sig .tc := ⟨.hbm, 370, rfl⟩
abbrev main_call1_call0_v78 : Ref sig .tc := ⟨.hbm, 371, rfl⟩
abbrev main_call1_call0_v79 : Ref sig .tc := ⟨.hbm, 372, rfl⟩
abbrev main_call1_call0_c_19 : Ref sig .tc := ⟨.hbm, 373, rfl⟩
abbrev main_call1_call0_v80 : Ref sig .tc := ⟨.hbm, 374, rfl⟩
abbrev main_call1_call0_v81 : Ref sig .tc := ⟨.hbm, 375, rfl⟩
abbrev main_call1_call0_v82 : Ref sig .tc := ⟨.hbm, 376, rfl⟩
abbrev main_call1_call0_v83 : Ref sig .tc := ⟨.hbm, 377, rfl⟩
abbrev main_call1_call0_v84 : Ref sig .tc := ⟨.hbm, 378, rfl⟩
abbrev main_call1_call0_c_20 : Ref sig .tc := ⟨.hbm, 379, rfl⟩
abbrev main_call1_call0_v85 : Ref sig .tc := ⟨.hbm, 380, rfl⟩
abbrev main_call1_call0_v86 : Ref sig .tc := ⟨.hbm, 381, rfl⟩
abbrev main_call1_call0_c_21 : Ref sig .tc := ⟨.hbm, 382, rfl⟩
abbrev main_call1_call0_v87 : Ref sig .tc := ⟨.hbm, 383, rfl⟩
abbrev main_call1_call0_v88 : Ref sig .tc := ⟨.hbm, 384, rfl⟩
abbrev main_call1_call0_v89 : Ref sig .tc := ⟨.hbm, 385, rfl⟩
abbrev main_call1_call0_v90 : Ref sig .tc := ⟨.hbm, 386, rfl⟩
abbrev main_call1_call0_v91 : Ref sig .tc := ⟨.hbm, 387, rfl⟩
abbrev main_call1_call0_c_22 : Ref sig .tc := ⟨.hbm, 388, rfl⟩
abbrev main_call1_call0_v92 : Ref sig .tc := ⟨.hbm, 389, rfl⟩
abbrev main_call1_call0_v93 : Ref sig .tc := ⟨.hbm, 390, rfl⟩
abbrev main_call1_call0_c_23 : Ref sig .tc := ⟨.hbm, 391, rfl⟩
abbrev main_call1_call0_v94 : Ref sig .tc := ⟨.hbm, 392, rfl⟩
abbrev main_call1_call0_v95 : Ref sig .tc := ⟨.hbm, 393, rfl⟩
abbrev main_call1_call0_v96 : Ref sig .tc := ⟨.hbm, 394, rfl⟩
abbrev main_call1_call0_v97 : Ref sig .tc := ⟨.hbm, 395, rfl⟩
abbrev main_call1_call0_v98 : Ref sig .tc := ⟨.hbm, 396, rfl⟩
abbrev main_call1_call0_c_24 : Ref sig .tc := ⟨.hbm, 397, rfl⟩
abbrev main_call1_call0_v99 : Ref sig .tc := ⟨.hbm, 398, rfl⟩
abbrev main_call1_call0_v100 : Ref sig .tc := ⟨.hbm, 399, rfl⟩
abbrev main_call1_call0_c_25 : Ref sig .tc := ⟨.hbm, 400, rfl⟩
abbrev main_call1_call0_v101 : Ref sig .tc := ⟨.hbm, 401, rfl⟩
abbrev main_call1_call0_v102 : Ref sig .tc := ⟨.hbm, 402, rfl⟩
abbrev main_call1_call0_v103 : Ref sig .tc := ⟨.hbm, 403, rfl⟩
abbrev main_call1_call0_v104 : Ref sig .tc := ⟨.hbm, 404, rfl⟩
abbrev main_call1_call0_v105 : Ref sig .tc := ⟨.hbm, 405, rfl⟩
abbrev main_call1_call0_v106 : Ref sig .tc := ⟨.hbm, 406, rfl⟩
abbrev main_call1_call0_v107 : Ref sig .tc := ⟨.hbm, 407, rfl⟩
abbrev main_call1_call0_v108 : Ref sig .tc := ⟨.hbm, 408, rfl⟩
abbrev main_call1_call0_c_26 : Ref sig .tc := ⟨.hbm, 409, rfl⟩
abbrev main_call1_call0_v109 : Ref sig .tc := ⟨.hbm, 410, rfl⟩
abbrev main_call1_call0_v110 : Ref sig .tc := ⟨.hbm, 411, rfl⟩
abbrev main_call1_call0_v111 : Ref sig .tc := ⟨.hbm, 412, rfl⟩
abbrev main_call1_call0_c_27 : Ref sig .tc := ⟨.hbm, 413, rfl⟩
abbrev main_call1_call0_v112 : Ref sig .tc := ⟨.hbm, 414, rfl⟩
abbrev main_call1_call0_v113 : Ref sig .tc := ⟨.hbm, 415, rfl⟩
abbrev main_call1_call0_c_28 : Ref sig .tc := ⟨.hbm, 416, rfl⟩
abbrev main_call1_call0_v114 : Ref sig .tc := ⟨.hbm, 417, rfl⟩
abbrev main_call1_call0_v115 : Ref sig .tc := ⟨.hbm, 418, rfl⟩
abbrev main_call1_call0_v116 : Ref sig .tc := ⟨.hbm, 419, rfl⟩
abbrev main_call1_call0_v117 : Ref sig .tc := ⟨.hbm, 420, rfl⟩
abbrev main_call1_call0_v118 : Ref sig .tc := ⟨.hbm, 421, rfl⟩
abbrev main_call1_call0_c_29 : Ref sig .tc := ⟨.hbm, 422, rfl⟩
abbrev main_call1_call0_v119 : Ref sig .tc := ⟨.hbm, 423, rfl⟩
abbrev main_call1_call0_v120 : Ref sig .tc := ⟨.hbm, 424, rfl⟩
abbrev main_call1_call0_c_30 : Ref sig .tc := ⟨.hbm, 425, rfl⟩
abbrev main_call1_call0_v121 : Ref sig .tc := ⟨.hbm, 426, rfl⟩
abbrev main_call1_call0_v122 : Ref sig .tc := ⟨.hbm, 427, rfl⟩
abbrev main_call1_call0_v123 : Ref sig .tc := ⟨.hbm, 428, rfl⟩
abbrev main_call1_call0_v124 : Ref sig .tc := ⟨.hbm, 429, rfl⟩
abbrev main_call1_call0_v125 : Ref sig .tc := ⟨.hbm, 430, rfl⟩
abbrev main_call1_call0_c_31 : Ref sig .tc := ⟨.hbm, 431, rfl⟩
abbrev main_call1_call0_v126 : Ref sig .tc := ⟨.hbm, 432, rfl⟩
abbrev main_call1_call0_v127 : Ref sig .tc := ⟨.hbm, 433, rfl⟩
abbrev main_call1_call0_c_32 : Ref sig .tc := ⟨.hbm, 434, rfl⟩
abbrev main_call1_call0_v128 : Ref sig .tc := ⟨.hbm, 435, rfl⟩
abbrev main_call1_call0_v129 : Ref sig .tc := ⟨.hbm, 436, rfl⟩
abbrev main_call1_call0_v130 : Ref sig .tc := ⟨.hbm, 437, rfl⟩
abbrev main_call1_call0_v131 : Ref sig .tc := ⟨.hbm, 438, rfl⟩
abbrev main_call1_call0_v132 : Ref sig .tc := ⟨.hbm, 439, rfl⟩
abbrev main_call1_call0_c_33 : Ref sig .tc := ⟨.hbm, 440, rfl⟩
abbrev main_call1_call0_v133 : Ref sig .tc := ⟨.hbm, 441, rfl⟩
abbrev main_call1_call0_v134 : Ref sig .tc := ⟨.hbm, 442, rfl⟩
abbrev main_call1_call0_c_34 : Ref sig .tc := ⟨.hbm, 443, rfl⟩
abbrev main_call1_call0_v135 : Ref sig .tc := ⟨.hbm, 444, rfl⟩
abbrev main_call1_call0_v136 : Ref sig .tc := ⟨.hbm, 445, rfl⟩
abbrev main_call1_call0_v137 : Ref sig .tc := ⟨.hbm, 446, rfl⟩
abbrev main_call1_call0_v138 : Ref sig .tc := ⟨.hbm, 447, rfl⟩
abbrev main_call1_call0_v139 : Ref sig .tc := ⟨.hbm, 448, rfl⟩
abbrev main_call1_call0_v140 : Ref sig .tc := ⟨.hbm, 449, rfl⟩
abbrev main_call1_call0_v141 : Ref sig .tc := ⟨.hbm, 450, rfl⟩
abbrev main_call1_call0_v142 : Ref sig .tc := ⟨.hbm, 451, rfl⟩
abbrev main_call1_call0_c_35 : Ref sig .tc := ⟨.hbm, 452, rfl⟩
abbrev main_call1_call0_v143 : Ref sig .tc := ⟨.hbm, 453, rfl⟩
abbrev main_call1_call0_v144 : Ref sig .tc := ⟨.hbm, 454, rfl⟩
abbrev main_call1_call0_v145 : Ref sig .tc := ⟨.hbm, 455, rfl⟩
abbrev main_call1_call0_c_36 : Ref sig .tc := ⟨.hbm, 456, rfl⟩
abbrev main_call1_call0_v146 : Ref sig .tc := ⟨.hbm, 457, rfl⟩
abbrev main_call1_call0_v147 : Ref sig .tc := ⟨.hbm, 458, rfl⟩
abbrev main_call1_call0_c_37 : Ref sig .tc := ⟨.hbm, 459, rfl⟩
abbrev main_call1_call0_v148 : Ref sig .tc := ⟨.hbm, 460, rfl⟩
abbrev main_call1_call0_v149 : Ref sig .tc := ⟨.hbm, 461, rfl⟩
abbrev main_call1_call0_v150 : Ref sig .tc := ⟨.hbm, 462, rfl⟩
abbrev main_call1_call0_v151 : Ref sig .tc := ⟨.hbm, 463, rfl⟩
abbrev main_call1_call0_v152 : Ref sig .tc := ⟨.hbm, 464, rfl⟩
abbrev main_call1_call0_c_38 : Ref sig .tc := ⟨.hbm, 465, rfl⟩
abbrev main_call1_call0_v153 : Ref sig .tc := ⟨.hbm, 466, rfl⟩
abbrev main_call1_call0_v154 : Ref sig .tc := ⟨.hbm, 467, rfl⟩
abbrev main_call1_call0_c_39 : Ref sig .tc := ⟨.hbm, 468, rfl⟩
abbrev main_call1_call0_v155 : Ref sig .tc := ⟨.hbm, 469, rfl⟩
abbrev main_call1_call0_v156 : Ref sig .tc := ⟨.hbm, 470, rfl⟩
abbrev main_call1_call0_v157 : Ref sig .tc := ⟨.hbm, 471, rfl⟩
abbrev main_call1_call0_v158 : Ref sig .tc := ⟨.hbm, 472, rfl⟩
abbrev main_call1_call0_v159 : Ref sig .tc := ⟨.hbm, 473, rfl⟩
abbrev main_call1_call0_c_40 : Ref sig .tc := ⟨.hbm, 474, rfl⟩
abbrev main_call1_call0_v160 : Ref sig .tc := ⟨.hbm, 475, rfl⟩
abbrev main_call1_call0_v161 : Ref sig .tc := ⟨.hbm, 476, rfl⟩
abbrev main_call1_call0_c_41 : Ref sig .tc := ⟨.hbm, 477, rfl⟩
abbrev main_call1_call0_v162 : Ref sig .tc := ⟨.hbm, 478, rfl⟩
abbrev main_call1_call0_v163 : Ref sig .tc := ⟨.hbm, 479, rfl⟩
abbrev main_call1_call0_v164 : Ref sig .tc := ⟨.hbm, 480, rfl⟩
abbrev main_call1_call0_v165 : Ref sig .tc := ⟨.hbm, 481, rfl⟩
abbrev main_call1_call0_v166 : Ref sig .tc := ⟨.hbm, 482, rfl⟩
abbrev main_call1_call0_c_42 : Ref sig .tc := ⟨.hbm, 483, rfl⟩
abbrev main_call1_call0_v167 : Ref sig .tc := ⟨.hbm, 484, rfl⟩
abbrev main_call1_call0_v168 : Ref sig .tc := ⟨.hbm, 485, rfl⟩
abbrev main_call1_call0_c_43 : Ref sig .tc := ⟨.hbm, 486, rfl⟩
abbrev main_call1_call0_v169 : Ref sig .tc := ⟨.hbm, 487, rfl⟩
abbrev main_call1_call0_v170 : Ref sig .tc := ⟨.hbm, 488, rfl⟩
abbrev main_call1_call0_v171 : Ref sig .tc := ⟨.hbm, 489, rfl⟩
abbrev main_call1_call0_v172 : Ref sig .tc := ⟨.hbm, 490, rfl⟩
abbrev main_call1_call0_v173 : Ref sig .tc := ⟨.hbm, 491, rfl⟩
abbrev main_call1_v15_0 : Ref sig .tc := ⟨.hbm, 492, rfl⟩
abbrev main_call1_call0_v175 : Ref sig .tc := ⟨.hbm, 493, rfl⟩
abbrev main_call1_call0_v176 : Ref sig .tc := ⟨.hbm, 494, rfl⟩
abbrev main_call1_call0_c_44 : Ref sig .tc := ⟨.hbm, 495, rfl⟩
abbrev main_call1_call0_v177 : Ref sig .tc := ⟨.hbm, 496, rfl⟩
abbrev main_call1_v15_1 : Ref sig .tc := ⟨.hbm, 497, rfl⟩
abbrev main_call1_v16 : Ref sig .tc := ⟨.hbm, 498, rfl⟩
abbrev main_call1_v17 : Ref sig .tc := ⟨.hbm, 499, rfl⟩
abbrev main_v9 : Ref sig .tc := ⟨.hbm, 500, rfl⟩
abbrev main_v10 : Ref sig .tc := ⟨.hbm, 501, rfl⟩
abbrev main_v11 : Ref sig .tc := ⟨.hbm, 502, rfl⟩
abbrev main_v12 : Ref sig .tc := ⟨.hbm, 503, rfl⟩
abbrev main_v13 : Ref sig .tc := ⟨.hbm, 504, rfl⟩
abbrev main_v14 : Ref sig .tc := ⟨.hbm, 505, rfl⟩
abbrev main_v15 : Ref sig .tc := ⟨.hbm, 506, rfl⟩
abbrev main_c_2 : Ref sig .tc := ⟨.hbm, 507, rfl⟩
abbrev main_v16 : Ref sig .tc := ⟨.hbm, 508, rfl⟩
abbrev main_v17 : Ref sig .tc := ⟨.hbm, 509, rfl⟩
abbrev main_c_3 : Ref sig .tc := ⟨.hbm, 510, rfl⟩
abbrev main_v18 : Ref sig .tc := ⟨.hbm, 511, rfl⟩
abbrev main_v19 : Ref sig .tc := ⟨.hbm, 512, rfl⟩
abbrev main_v20 : Ref sig .tc := ⟨.hbm, 513, rfl⟩
abbrev main_c_4 : Ref sig .tc := ⟨.hbm, 514, rfl⟩
abbrev main_v21 : Ref sig .tc := ⟨.hbm, 515, rfl⟩
abbrev main_v22 : Ref sig .tc := ⟨.hbm, 516, rfl⟩
abbrev main_v23 : Ref sig .tc := ⟨.hbm, 517, rfl⟩
abbrev main_v24 : Ref sig .tc := ⟨.hbm, 518, rfl⟩
abbrev main_v25 : Ref sig .tc := ⟨.hbm, 519, rfl⟩
abbrev main_v26 : Ref sig .tc := ⟨.hbm, 520, rfl⟩
abbrev main_v27 : Ref sig .tc := ⟨.hbm, 521, rfl⟩
abbrev main_v28 : Ref sig .tc := ⟨.hbm, 522, rfl⟩
abbrev main_v29 : Ref sig .tc := ⟨.hbm, 523, rfl⟩
abbrev main_v30 : Ref sig .tc := ⟨.hbm, 524, rfl⟩
abbrev main_call2_v0 : Ref sig .tc := ⟨.hbm, 525, rfl⟩
abbrev main_call2_c : Ref sig .tc := ⟨.hbm, 526, rfl⟩
abbrev main_call2_v1 : Ref sig .tc := ⟨.hbm, 527, rfl⟩
abbrev main_call2_v2 : Ref sig .tc := ⟨.hbm, 528, rfl⟩
abbrev main_call2_v3 : Ref sig .tc := ⟨.hbm, 529, rfl⟩
abbrev main_call2_v4 : Ref sig .tc := ⟨.hbm, 530, rfl⟩
abbrev main_call2_v5 : Ref sig .tc := ⟨.hbm, 531, rfl⟩
abbrev main_call2_v6 : Ref sig .tc := ⟨.hbm, 532, rfl⟩
abbrev main_call2_v7 : Ref sig .tc := ⟨.hbm, 533, rfl⟩
abbrev main_call2_v8 : Ref sig .tc := ⟨.hbm, 534, rfl⟩
abbrev main_call2_v9 : Ref sig .tc := ⟨.hbm, 535, rfl⟩
abbrev main_call2_c_0 : Ref sig .tc := ⟨.hbm, 536, rfl⟩
abbrev main_call2_v10 : Ref sig .tc := ⟨.hbm, 537, rfl⟩
abbrev main_call2_v11 : Ref sig .tc := ⟨.hbm, 538, rfl⟩
abbrev main_call2_c_1 : Ref sig .tc := ⟨.hbm, 539, rfl⟩
abbrev main_call2_v12 : Ref sig .tc := ⟨.hbm, 540, rfl⟩
abbrev main_call2_v13 : Ref sig .tc := ⟨.hbm, 541, rfl⟩
abbrev main_call2_v14 : Ref sig .tc := ⟨.hbm, 542, rfl⟩
abbrev main_call2_v15 : Ref sig .tc := ⟨.hbm, 543, rfl⟩
abbrev main_call2_v16 : Ref sig .tc := ⟨.hbm, 544, rfl⟩
abbrev main_call2_c_2 : Ref sig .tc := ⟨.hbm, 545, rfl⟩
abbrev main_call2_v17 : Ref sig .tc := ⟨.hbm, 546, rfl⟩
abbrev main_call2_v18 : Ref sig .tc := ⟨.hbm, 547, rfl⟩
abbrev main_call2_c_3 : Ref sig .tc := ⟨.hbm, 548, rfl⟩
abbrev main_call2_v19 : Ref sig .tc := ⟨.hbm, 549, rfl⟩
abbrev main_call2_v20 : Ref sig .tc := ⟨.hbm, 550, rfl⟩
abbrev main_call2_v21 : Ref sig .tc := ⟨.hbm, 551, rfl⟩
abbrev main_call2_v22 : Ref sig .tc := ⟨.hbm, 552, rfl⟩
abbrev main_call2_v23 : Ref sig .tc := ⟨.hbm, 553, rfl⟩
abbrev main_call2_c_4 : Ref sig .tc := ⟨.hbm, 554, rfl⟩
abbrev main_call2_v24 : Ref sig .tc := ⟨.hbm, 555, rfl⟩
abbrev main_call2_v25 : Ref sig .tc := ⟨.hbm, 556, rfl⟩
abbrev main_call2_c_5 : Ref sig .tc := ⟨.hbm, 557, rfl⟩
abbrev main_call2_v26 : Ref sig .tc := ⟨.hbm, 558, rfl⟩
abbrev main_call2_v27 : Ref sig .tc := ⟨.hbm, 559, rfl⟩
abbrev main_call2_v28 : Ref sig .tc := ⟨.hbm, 560, rfl⟩
abbrev main_call2_v29 : Ref sig .tc := ⟨.hbm, 561, rfl⟩
abbrev main_call2_v30 : Ref sig .tc := ⟨.hbm, 562, rfl⟩
abbrev main_call2_c_6 : Ref sig .tc := ⟨.hbm, 563, rfl⟩
abbrev main_call2_v31 : Ref sig .tc := ⟨.hbm, 564, rfl⟩
abbrev main_call2_v32 : Ref sig .tc := ⟨.hbm, 565, rfl⟩
abbrev main_call2_c_7 : Ref sig .tc := ⟨.hbm, 566, rfl⟩
abbrev main_call2_v33 : Ref sig .tc := ⟨.hbm, 567, rfl⟩
abbrev main_call2_v34 : Ref sig .tc := ⟨.hbm, 568, rfl⟩
abbrev main_call2_v35 : Ref sig .tc := ⟨.hbm, 569, rfl⟩
abbrev main_call2_v36 : Ref sig .tc := ⟨.hbm, 570, rfl⟩
abbrev main_call2_v37 : Ref sig .tc := ⟨.hbm, 571, rfl⟩
abbrev main_call2_v38 : Ref sig .tc := ⟨.hbm, 572, rfl⟩
abbrev main_call2_v39 : Ref sig .tc := ⟨.hbm, 573, rfl⟩
abbrev main_call2_v40 : Ref sig .tc := ⟨.hbm, 574, rfl⟩
abbrev main_call2_c_8 : Ref sig .tc := ⟨.hbm, 575, rfl⟩
abbrev main_call2_v41 : Ref sig .tc := ⟨.hbm, 576, rfl⟩
abbrev main_call2_v42 : Ref sig .tc := ⟨.hbm, 577, rfl⟩
abbrev main_call2_v43 : Ref sig .tc := ⟨.hbm, 578, rfl⟩
abbrev main_call2_c_9 : Ref sig .tc := ⟨.hbm, 579, rfl⟩
abbrev main_call2_v44 : Ref sig .tc := ⟨.hbm, 580, rfl⟩
abbrev main_call2_v45 : Ref sig .tc := ⟨.hbm, 581, rfl⟩
abbrev main_call2_c_10 : Ref sig .tc := ⟨.hbm, 582, rfl⟩
abbrev main_call2_v46 : Ref sig .tc := ⟨.hbm, 583, rfl⟩
abbrev main_call2_v47 : Ref sig .tc := ⟨.hbm, 584, rfl⟩
abbrev main_call2_v48 : Ref sig .tc := ⟨.hbm, 585, rfl⟩
abbrev main_call2_v49 : Ref sig .tc := ⟨.hbm, 586, rfl⟩
abbrev main_call2_v50 : Ref sig .tc := ⟨.hbm, 587, rfl⟩
abbrev main_call2_c_11 : Ref sig .tc := ⟨.hbm, 588, rfl⟩
abbrev main_call2_v51 : Ref sig .tc := ⟨.hbm, 589, rfl⟩
abbrev main_call2_v52 : Ref sig .tc := ⟨.hbm, 590, rfl⟩
abbrev main_call2_c_12 : Ref sig .tc := ⟨.hbm, 591, rfl⟩
abbrev main_call2_v53 : Ref sig .tc := ⟨.hbm, 592, rfl⟩
abbrev main_call2_v54 : Ref sig .tc := ⟨.hbm, 593, rfl⟩
abbrev main_call2_v55 : Ref sig .tc := ⟨.hbm, 594, rfl⟩
abbrev main_call2_v56 : Ref sig .tc := ⟨.hbm, 595, rfl⟩
abbrev main_call2_v57 : Ref sig .tc := ⟨.hbm, 596, rfl⟩
abbrev main_call2_c_13 : Ref sig .tc := ⟨.hbm, 597, rfl⟩
abbrev main_call2_v58 : Ref sig .tc := ⟨.hbm, 598, rfl⟩
abbrev main_call2_v59 : Ref sig .tc := ⟨.hbm, 599, rfl⟩
abbrev main_call2_c_14 : Ref sig .tc := ⟨.hbm, 600, rfl⟩
abbrev main_call2_v60 : Ref sig .tc := ⟨.hbm, 601, rfl⟩
abbrev main_call2_v61 : Ref sig .tc := ⟨.hbm, 602, rfl⟩
abbrev main_call2_v62 : Ref sig .tc := ⟨.hbm, 603, rfl⟩
abbrev main_call2_v63 : Ref sig .tc := ⟨.hbm, 604, rfl⟩
abbrev main_call2_v64 : Ref sig .tc := ⟨.hbm, 605, rfl⟩
abbrev main_call2_c_15 : Ref sig .tc := ⟨.hbm, 606, rfl⟩
abbrev main_call2_v65 : Ref sig .tc := ⟨.hbm, 607, rfl⟩
abbrev main_call2_v66 : Ref sig .tc := ⟨.hbm, 608, rfl⟩
abbrev main_call2_c_16 : Ref sig .tc := ⟨.hbm, 609, rfl⟩
abbrev main_call2_v67 : Ref sig .tc := ⟨.hbm, 610, rfl⟩
abbrev main_call2_v68 : Ref sig .tc := ⟨.hbm, 611, rfl⟩
abbrev main_call2_v69 : Ref sig .tc := ⟨.hbm, 612, rfl⟩
abbrev main_call2_v70 : Ref sig .tc := ⟨.hbm, 613, rfl⟩
abbrev main_call2_v71 : Ref sig .tc := ⟨.hbm, 614, rfl⟩
abbrev main_call2_v72 : Ref sig .tc := ⟨.hbm, 615, rfl⟩
abbrev main_call2_v73 : Ref sig .tc := ⟨.hbm, 616, rfl⟩
abbrev main_call2_v74 : Ref sig .tc := ⟨.hbm, 617, rfl⟩
abbrev main_call2_c_17 : Ref sig .tc := ⟨.hbm, 618, rfl⟩
abbrev main_call2_v75 : Ref sig .tc := ⟨.hbm, 619, rfl⟩
abbrev main_call2_v76 : Ref sig .tc := ⟨.hbm, 620, rfl⟩
abbrev main_call2_v77 : Ref sig .tc := ⟨.hbm, 621, rfl⟩
abbrev main_call2_c_18 : Ref sig .tc := ⟨.hbm, 622, rfl⟩
abbrev main_call2_v78 : Ref sig .tc := ⟨.hbm, 623, rfl⟩
abbrev main_call2_v79 : Ref sig .tc := ⟨.hbm, 624, rfl⟩
abbrev main_call2_c_19 : Ref sig .tc := ⟨.hbm, 625, rfl⟩
abbrev main_call2_v80 : Ref sig .tc := ⟨.hbm, 626, rfl⟩
abbrev main_call2_v81 : Ref sig .tc := ⟨.hbm, 627, rfl⟩
abbrev main_call2_v82 : Ref sig .tc := ⟨.hbm, 628, rfl⟩
abbrev main_call2_v83 : Ref sig .tc := ⟨.hbm, 629, rfl⟩
abbrev main_call2_v84 : Ref sig .tc := ⟨.hbm, 630, rfl⟩
abbrev main_call2_c_20 : Ref sig .tc := ⟨.hbm, 631, rfl⟩
abbrev main_call2_v85 : Ref sig .tc := ⟨.hbm, 632, rfl⟩
abbrev main_call2_v86 : Ref sig .tc := ⟨.hbm, 633, rfl⟩
abbrev main_call2_c_21 : Ref sig .tc := ⟨.hbm, 634, rfl⟩
abbrev main_call2_v87 : Ref sig .tc := ⟨.hbm, 635, rfl⟩
abbrev main_call2_v88 : Ref sig .tc := ⟨.hbm, 636, rfl⟩
abbrev main_call2_v89 : Ref sig .tc := ⟨.hbm, 637, rfl⟩
abbrev main_call2_v90 : Ref sig .tc := ⟨.hbm, 638, rfl⟩
abbrev main_call2_v91 : Ref sig .tc := ⟨.hbm, 639, rfl⟩
abbrev main_call2_c_22 : Ref sig .tc := ⟨.hbm, 640, rfl⟩
abbrev main_call2_v92 : Ref sig .tc := ⟨.hbm, 641, rfl⟩
abbrev main_call2_v93 : Ref sig .tc := ⟨.hbm, 642, rfl⟩
abbrev main_call2_c_23 : Ref sig .tc := ⟨.hbm, 643, rfl⟩
abbrev main_call2_v94 : Ref sig .tc := ⟨.hbm, 644, rfl⟩
abbrev main_call2_v95 : Ref sig .tc := ⟨.hbm, 645, rfl⟩
abbrev main_call2_v96 : Ref sig .tc := ⟨.hbm, 646, rfl⟩
abbrev main_call2_v97 : Ref sig .tc := ⟨.hbm, 647, rfl⟩
abbrev main_call2_v98 : Ref sig .tc := ⟨.hbm, 648, rfl⟩
abbrev main_call2_c_24 : Ref sig .tc := ⟨.hbm, 649, rfl⟩
abbrev main_call2_v99 : Ref sig .tc := ⟨.hbm, 650, rfl⟩
abbrev main_call2_v100 : Ref sig .tc := ⟨.hbm, 651, rfl⟩
abbrev main_call2_c_25 : Ref sig .tc := ⟨.hbm, 652, rfl⟩
abbrev main_call2_v101 : Ref sig .tc := ⟨.hbm, 653, rfl⟩
abbrev main_call2_v102 : Ref sig .tc := ⟨.hbm, 654, rfl⟩
abbrev main_call2_v103 : Ref sig .tc := ⟨.hbm, 655, rfl⟩
abbrev main_call2_v104 : Ref sig .tc := ⟨.hbm, 656, rfl⟩
abbrev main_call2_v105 : Ref sig .tc := ⟨.hbm, 657, rfl⟩
abbrev main_call2_v106 : Ref sig .tc := ⟨.hbm, 658, rfl⟩
abbrev main_call2_v107 : Ref sig .tc := ⟨.hbm, 659, rfl⟩
abbrev main_call2_v108 : Ref sig .tc := ⟨.hbm, 660, rfl⟩
abbrev main_call2_c_26 : Ref sig .tc := ⟨.hbm, 661, rfl⟩
abbrev main_call2_v109 : Ref sig .tc := ⟨.hbm, 662, rfl⟩
abbrev main_call2_v110 : Ref sig .tc := ⟨.hbm, 663, rfl⟩
abbrev main_call2_v111 : Ref sig .tc := ⟨.hbm, 664, rfl⟩
abbrev main_call2_c_27 : Ref sig .tc := ⟨.hbm, 665, rfl⟩
abbrev main_call2_v112 : Ref sig .tc := ⟨.hbm, 666, rfl⟩
abbrev main_call2_v113 : Ref sig .tc := ⟨.hbm, 667, rfl⟩
abbrev main_call2_c_28 : Ref sig .tc := ⟨.hbm, 668, rfl⟩
abbrev main_call2_v114 : Ref sig .tc := ⟨.hbm, 669, rfl⟩
abbrev main_call2_v115 : Ref sig .tc := ⟨.hbm, 670, rfl⟩
abbrev main_call2_v116 : Ref sig .tc := ⟨.hbm, 671, rfl⟩
abbrev main_call2_v117 : Ref sig .tc := ⟨.hbm, 672, rfl⟩
abbrev main_call2_v118 : Ref sig .tc := ⟨.hbm, 673, rfl⟩
abbrev main_call2_c_29 : Ref sig .tc := ⟨.hbm, 674, rfl⟩
abbrev main_call2_v119 : Ref sig .tc := ⟨.hbm, 675, rfl⟩
abbrev main_call2_v120 : Ref sig .tc := ⟨.hbm, 676, rfl⟩
abbrev main_call2_c_30 : Ref sig .tc := ⟨.hbm, 677, rfl⟩
abbrev main_call2_v121 : Ref sig .tc := ⟨.hbm, 678, rfl⟩
abbrev main_call2_v122 : Ref sig .tc := ⟨.hbm, 679, rfl⟩
abbrev main_call2_v123 : Ref sig .tc := ⟨.hbm, 680, rfl⟩
abbrev main_call2_v124 : Ref sig .tc := ⟨.hbm, 681, rfl⟩
abbrev main_call2_v125 : Ref sig .tc := ⟨.hbm, 682, rfl⟩
abbrev main_call2_c_31 : Ref sig .tc := ⟨.hbm, 683, rfl⟩
abbrev main_call2_v126 : Ref sig .tc := ⟨.hbm, 684, rfl⟩
abbrev main_call2_v127 : Ref sig .tc := ⟨.hbm, 685, rfl⟩
abbrev main_call2_c_32 : Ref sig .tc := ⟨.hbm, 686, rfl⟩
abbrev main_call2_v128 : Ref sig .tc := ⟨.hbm, 687, rfl⟩
abbrev main_call2_v129 : Ref sig .tc := ⟨.hbm, 688, rfl⟩
abbrev main_call2_v130 : Ref sig .tc := ⟨.hbm, 689, rfl⟩
abbrev main_call2_v131 : Ref sig .tc := ⟨.hbm, 690, rfl⟩
abbrev main_call2_v132 : Ref sig .tc := ⟨.hbm, 691, rfl⟩
abbrev main_call2_c_33 : Ref sig .tc := ⟨.hbm, 692, rfl⟩
abbrev main_call2_v133 : Ref sig .tc := ⟨.hbm, 693, rfl⟩
abbrev main_call2_v134 : Ref sig .tc := ⟨.hbm, 694, rfl⟩
abbrev main_call2_c_34 : Ref sig .tc := ⟨.hbm, 695, rfl⟩
abbrev main_call2_v135 : Ref sig .tc := ⟨.hbm, 696, rfl⟩
abbrev main_call2_v136 : Ref sig .tc := ⟨.hbm, 697, rfl⟩
abbrev main_call2_v137 : Ref sig .tc := ⟨.hbm, 698, rfl⟩
abbrev main_call2_v138 : Ref sig .tc := ⟨.hbm, 699, rfl⟩
abbrev main_call2_v139 : Ref sig .tc := ⟨.hbm, 700, rfl⟩
abbrev main_call2_v140 : Ref sig .tc := ⟨.hbm, 701, rfl⟩
abbrev main_call2_v141 : Ref sig .tc := ⟨.hbm, 702, rfl⟩
abbrev main_call2_v142 : Ref sig .tc := ⟨.hbm, 703, rfl⟩
abbrev main_call2_c_35 : Ref sig .tc := ⟨.hbm, 704, rfl⟩
abbrev main_call2_v143 : Ref sig .tc := ⟨.hbm, 705, rfl⟩
abbrev main_call2_v144 : Ref sig .tc := ⟨.hbm, 706, rfl⟩
abbrev main_call2_v145 : Ref sig .tc := ⟨.hbm, 707, rfl⟩
abbrev main_call2_c_36 : Ref sig .tc := ⟨.hbm, 708, rfl⟩
abbrev main_call2_v146 : Ref sig .tc := ⟨.hbm, 709, rfl⟩
abbrev main_call2_v147 : Ref sig .tc := ⟨.hbm, 710, rfl⟩
abbrev main_call2_c_37 : Ref sig .tc := ⟨.hbm, 711, rfl⟩
abbrev main_call2_v148 : Ref sig .tc := ⟨.hbm, 712, rfl⟩
abbrev main_call2_v149 : Ref sig .tc := ⟨.hbm, 713, rfl⟩
abbrev main_call2_v150 : Ref sig .tc := ⟨.hbm, 714, rfl⟩
abbrev main_call2_v151 : Ref sig .tc := ⟨.hbm, 715, rfl⟩
abbrev main_call2_v152 : Ref sig .tc := ⟨.hbm, 716, rfl⟩
abbrev main_call2_c_38 : Ref sig .tc := ⟨.hbm, 717, rfl⟩
abbrev main_call2_v153 : Ref sig .tc := ⟨.hbm, 718, rfl⟩
abbrev main_call2_v154 : Ref sig .tc := ⟨.hbm, 719, rfl⟩
abbrev main_call2_c_39 : Ref sig .tc := ⟨.hbm, 720, rfl⟩
abbrev main_call2_v155 : Ref sig .tc := ⟨.hbm, 721, rfl⟩
abbrev main_call2_v156 : Ref sig .tc := ⟨.hbm, 722, rfl⟩
abbrev main_call2_v157 : Ref sig .tc := ⟨.hbm, 723, rfl⟩
abbrev main_call2_v158 : Ref sig .tc := ⟨.hbm, 724, rfl⟩
abbrev main_call2_v159 : Ref sig .tc := ⟨.hbm, 725, rfl⟩
abbrev main_call2_c_40 : Ref sig .tc := ⟨.hbm, 726, rfl⟩
abbrev main_call2_v160 : Ref sig .tc := ⟨.hbm, 727, rfl⟩
abbrev main_call2_v161 : Ref sig .tc := ⟨.hbm, 728, rfl⟩
abbrev main_call2_c_41 : Ref sig .tc := ⟨.hbm, 729, rfl⟩
abbrev main_call2_v162 : Ref sig .tc := ⟨.hbm, 730, rfl⟩
abbrev main_call2_v163 : Ref sig .tc := ⟨.hbm, 731, rfl⟩
abbrev main_call2_v164 : Ref sig .tc := ⟨.hbm, 732, rfl⟩
abbrev main_call2_v165 : Ref sig .tc := ⟨.hbm, 733, rfl⟩
abbrev main_call2_v166 : Ref sig .tc := ⟨.hbm, 734, rfl⟩
abbrev main_call2_c_42 : Ref sig .tc := ⟨.hbm, 735, rfl⟩
abbrev main_call2_v167 : Ref sig .tc := ⟨.hbm, 736, rfl⟩
abbrev main_call2_v168 : Ref sig .tc := ⟨.hbm, 737, rfl⟩
abbrev main_call2_c_43 : Ref sig .tc := ⟨.hbm, 738, rfl⟩
abbrev main_call2_v169 : Ref sig .tc := ⟨.hbm, 739, rfl⟩
abbrev main_call2_v170 : Ref sig .tc := ⟨.hbm, 740, rfl⟩
abbrev main_call2_v171 : Ref sig .tc := ⟨.hbm, 741, rfl⟩
abbrev main_call2_v172 : Ref sig .tc := ⟨.hbm, 742, rfl⟩
abbrev main_call2_v173 : Ref sig .tc := ⟨.hbm, 743, rfl⟩
abbrev main_v31_0 : Ref sig .tc := ⟨.hbm, 744, rfl⟩
abbrev main_call2_v175 : Ref sig .tc := ⟨.hbm, 745, rfl⟩
abbrev main_call2_v176 : Ref sig .tc := ⟨.hbm, 746, rfl⟩
abbrev main_call2_c_44 : Ref sig .tc := ⟨.hbm, 747, rfl⟩
abbrev main_call2_v177 : Ref sig .tc := ⟨.hbm, 748, rfl⟩
abbrev main_v31_1 : Ref sig .tc := ⟨.hbm, 749, rfl⟩
abbrev main_v32 : Ref sig .tc := ⟨.hbm, 750, rfl⟩
abbrev main_c_5 : Ref sig .tc := ⟨.hbm, 751, rfl⟩
abbrev main_v33 : Ref sig .tc := ⟨.hbm, 752, rfl⟩
abbrev main_v34 : Ref sig .tc := ⟨.hbm, 753, rfl⟩
abbrev main_c_6 : Ref sig .tc := ⟨.hbm, 754, rfl⟩
abbrev main_v35 : Ref sig .tc := ⟨.hbm, 755, rfl⟩
abbrev main_v36 : Ref sig .tc := ⟨.hbm, 756, rfl⟩
abbrev main_v37 : Ref sig .tc := ⟨.hbm, 757, rfl⟩
abbrev main_cst : Ref sig .tc := ⟨.hbm, 758, rfl⟩
abbrev main_v38 : Ref sig .tc := ⟨.hbm, 759, rfl⟩
abbrev main_v39 : Ref sig .tc := ⟨.hbm, 760, rfl⟩
abbrev main_cst_7 : Ref sig .tc := ⟨.hbm, 761, rfl⟩
abbrev main_v40 : Ref sig .tc := ⟨.hbm, 762, rfl⟩
abbrev main_v41 : Ref sig .tc := ⟨.hbm, 763, rfl⟩
abbrev main_cst_8 : Ref sig .tc := ⟨.hbm, 764, rfl⟩
abbrev main_v42 : Ref sig .tc := ⟨.hbm, 765, rfl⟩
abbrev main_v43 : Ref sig .tc := ⟨.hbm, 766, rfl⟩
abbrev main_v44 : Ref sig .tc := ⟨.hbm, 767, rfl⟩
abbrev main_v45 : Ref sig .tc := ⟨.hbm, 768, rfl⟩
abbrev main_v46 : Ref sig .tc := ⟨.hbm, 769, rfl⟩
abbrev main_v47 : Ref sig .tc := ⟨.hbm, 770, rfl⟩
abbrev main_v48 : Ref sig .tc := ⟨.hbm, 771, rfl⟩
abbrev main_v49 : Ref sig .tc := ⟨.hbm, 772, rfl⟩
abbrev main_v50 : Ref sig .tc := ⟨.hbm, 773, rfl⟩
abbrev main_v51 : Ref sig .tc := ⟨.hbm, 774, rfl⟩
abbrev main_v52 : Ref sig .tc := ⟨.hbm, 775, rfl⟩
abbrev main_cst_9 : Ref sig .tc := ⟨.hbm, 776, rfl⟩
abbrev main_v53 : Ref sig .tc := ⟨.hbm, 777, rfl⟩
abbrev main_cst_10 : Ref sig .tc := ⟨.hbm, 778, rfl⟩
abbrev main_v54 : Ref sig .tc := ⟨.hbm, 779, rfl⟩
abbrev main_v55 : Ref sig .tc := ⟨.hbm, 780, rfl⟩
abbrev main_v56 : Ref sig .tc := ⟨.hbm, 781, rfl⟩
abbrev main_v57 : Ref sig .tc := ⟨.hbm, 782, rfl⟩
abbrev main_v58 : Ref sig .tc := ⟨.hbm, 783, rfl⟩
abbrev main_v59 : Ref sig .tc := ⟨.hbm, 784, rfl⟩
abbrev main_cst_11 : Ref sig .tc := ⟨.hbm, 785, rfl⟩
abbrev main_v60 : Ref sig .tc := ⟨.hbm, 786, rfl⟩
abbrev main_v61 : Ref sig .tc := ⟨.hbm, 787, rfl⟩
abbrev main_v62 : Ref sig .tc := ⟨.hbm, 788, rfl⟩
abbrev main_v63 : Ref sig .tc := ⟨.hbm, 789, rfl⟩
abbrev main_v64 : Ref sig .tc := ⟨.hbm, 790, rfl⟩
abbrev main_v65 : Ref sig .tc := ⟨.hbm, 791, rfl⟩
abbrev main_v66 : Ref sig .tc := ⟨.hbm, 792, rfl⟩
abbrev main_v67 : Ref sig .tc := ⟨.hbm, 793, rfl⟩
abbrev main_v68 : Ref sig .tc := ⟨.hbm, 794, rfl⟩
abbrev main_v69 : Ref sig .tc := ⟨.hbm, 795, rfl⟩
abbrev main_call3_v0 : Ref sig .tc := ⟨.hbm, 796, rfl⟩
abbrev main_call3_cst : Ref sig .tc := ⟨.hbm, 797, rfl⟩
abbrev main_call3_c : Ref sig .tc := ⟨.hbm, 798, rfl⟩
abbrev main_call3_v1_0 : Ref sig .tc := ⟨.hbm, 799, rfl⟩
abbrev main_v70 : Ref sig .tc := ⟨.hbm, 800, rfl⟩
abbrev main_v71 : Ref sig .tc := ⟨.hbm, 801, rfl⟩
abbrev main_v72 : Ref sig .tc := ⟨.hbm, 802, rfl⟩
abbrev main_v73 : Ref sig .tc := ⟨.hbm, 803, rfl⟩
abbrev main_v74 : Ref sig .tc := ⟨.hbm, 804, rfl⟩
abbrev main_c_12 : Ref sig .tc := ⟨.hbm, 805, rfl⟩
abbrev main_v75 : Ref sig .tc := ⟨.hbm, 806, rfl⟩
abbrev main_v76 : Ref sig .tc := ⟨.hbm, 807, rfl⟩
abbrev main_c_13 : Ref sig .tc := ⟨.hbm, 808, rfl⟩
abbrev main_v77 : Ref sig .tc := ⟨.hbm, 809, rfl⟩
abbrev main_v78 : Ref sig .tc := ⟨.hbm, 810, rfl⟩
abbrev main_v79 : Ref sig .tc := ⟨.hbm, 811, rfl⟩
abbrev main_v80 : Ref sig .tc := ⟨.hbm, 812, rfl⟩
abbrev main_v81 : Ref sig .tc := ⟨.hbm, 813, rfl⟩
abbrev main_v82 : Ref sig .tc := ⟨.hbm, 814, rfl⟩
abbrev main_v83 : Ref sig .tc := ⟨.hbm, 815, rfl⟩
abbrev main_v84 : Ref sig .tc := ⟨.hbm, 816, rfl⟩
abbrev main_v85 : Ref sig .tc := ⟨.hbm, 817, rfl⟩
abbrev main_v86 : Ref sig .tc := ⟨.hbm, 818, rfl⟩
abbrev main_cst_14 : Ref sig .tc := ⟨.hbm, 819, rfl⟩
abbrev main_v87 : Ref sig .tc := ⟨.hbm, 820, rfl⟩
abbrev main_cst_15 : Ref sig .tc := ⟨.hbm, 821, rfl⟩
abbrev main_v88 : Ref sig .tc := ⟨.hbm, 822, rfl⟩
abbrev main_v89 : Ref sig .tc := ⟨.hbm, 823, rfl⟩
abbrev main_v90 : Ref sig .tc := ⟨.hbm, 824, rfl⟩
abbrev main_v91 : Ref sig .tc := ⟨.hbm, 825, rfl⟩
abbrev main_v92 : Ref sig .tc := ⟨.hbm, 826, rfl⟩
abbrev main_v93 : Ref sig .tc := ⟨.hbm, 827, rfl⟩
abbrev main_cst_16 : Ref sig .tc := ⟨.hbm, 828, rfl⟩
abbrev main_v94 : Ref sig .tc := ⟨.hbm, 829, rfl⟩
abbrev main_v95 : Ref sig .tc := ⟨.hbm, 830, rfl⟩
abbrev main_v96 : Ref sig .tc := ⟨.hbm, 831, rfl⟩
abbrev main_v97 : Ref sig .tc := ⟨.hbm, 832, rfl⟩
abbrev main_v98 : Ref sig .tc := ⟨.hbm, 833, rfl⟩
abbrev main_v99 : Ref sig .tc := ⟨.hbm, 834, rfl⟩
abbrev main_v100 : Ref sig .tc := ⟨.hbm, 835, rfl⟩
abbrev main_v101 : Ref sig .tc := ⟨.hbm, 836, rfl⟩
abbrev main_v102 : Ref sig .tc := ⟨.hbm, 837, rfl⟩
abbrev main_v103 : Ref sig .tc := ⟨.hbm, 838, rfl⟩
abbrev main_call4_v0 : Ref sig .tc := ⟨.hbm, 839, rfl⟩
abbrev main_call4_cst : Ref sig .tc := ⟨.hbm, 840, rfl⟩
abbrev main_call4_c : Ref sig .tc := ⟨.hbm, 841, rfl⟩
abbrev main_call4_v1_0 : Ref sig .tc := ⟨.hbm, 842, rfl⟩
abbrev main_v104 : Ref sig .tc := ⟨.hbm, 843, rfl⟩
abbrev main_v105 : Ref sig .tc := ⟨.hbm, 844, rfl⟩
abbrev main_v106 : Ref sig .tc := ⟨.hbm, 845, rfl⟩
abbrev main_v107 : Ref sig .tc := ⟨.hbm, 846, rfl⟩
abbrev main_v108 : Ref sig .tc := ⟨.hbm, 847, rfl⟩
abbrev main_c_17 : Ref sig .tc := ⟨.hbm, 848, rfl⟩
abbrev main_v109 : Ref sig .tc := ⟨.hbm, 849, rfl⟩
abbrev main_v110 : Ref sig .tc := ⟨.hbm, 850, rfl⟩
abbrev main_c_18 : Ref sig .tc := ⟨.hbm, 851, rfl⟩
abbrev main_v111 : Ref sig .tc := ⟨.hbm, 852, rfl⟩
abbrev main_v112 : Ref sig .tc := ⟨.hbm, 853, rfl⟩
abbrev main_v113 : Ref sig .tc := ⟨.hbm, 854, rfl⟩
abbrev main_v114 : Ref sig .tc := ⟨.hbm, 855, rfl⟩
abbrev main_v115 : Ref sig .tc := ⟨.hbm, 856, rfl⟩
abbrev main_v116 : Ref sig .tc := ⟨.hbm, 857, rfl⟩
abbrev main_cst_19 : Ref sig .tc := ⟨.hbm, 858, rfl⟩
abbrev main_v117 : Ref sig .tc := ⟨.hbm, 859, rfl⟩
abbrev main_v118 : Ref sig .tc := ⟨.hbm, 860, rfl⟩
abbrev main_v119 : Ref sig .tc := ⟨.hbm, 861, rfl⟩
abbrev main_v120 : Ref sig .tc := ⟨.hbm, 862, rfl⟩
abbrev main_v121 : Ref sig .tc := ⟨.hbm, 863, rfl⟩
abbrev main_v122 : Ref sig .tc := ⟨.hbm, 864, rfl⟩
abbrev main_v123 : Ref sig .tc := ⟨.hbm, 865, rfl⟩
abbrev main_v124 : Ref sig .tc := ⟨.hbm, 866, rfl⟩
abbrev main_call5_v0 : Ref sig .tc := ⟨.hbm, 867, rfl⟩
abbrev main_call5_v1 : Ref sig .tc := ⟨.hbm, 868, rfl⟩
abbrev main_call5_v2 : Ref sig .tc := ⟨.hbm, 869, rfl⟩
abbrev main_call5_v3 : Ref sig .tc := ⟨.hbm, 870, rfl⟩
abbrev main_call5_v4 : Ref sig .tc := ⟨.hbm, 871, rfl⟩
abbrev main_v125 : Ref sig .tc := ⟨.hbm, 872, rfl⟩
abbrev main_v126 : Ref sig .tc := ⟨.hbm, 873, rfl⟩
abbrev main_v127 : Ref sig .tc := ⟨.hbm, 874, rfl⟩
abbrev main_v128 : Ref sig .tc := ⟨.hbm, 875, rfl⟩
abbrev main_v129 : Ref sig .tc := ⟨.hbm, 876, rfl⟩
abbrev main_v130 : Ref sig .tc := ⟨.hbm, 877, rfl⟩
abbrev main_v131 : Ref sig .tc := ⟨.hbm, 878, rfl⟩
abbrev main_v132 : Ref sig .tc := ⟨.hbm, 879, rfl⟩
abbrev main_v133 : Ref sig .tc := ⟨.hbm, 880, rfl⟩
abbrev main_v134 : Ref sig .tc := ⟨.hbm, 881, rfl⟩
abbrev main_cst_20 : Ref sig .tc := ⟨.hbm, 882, rfl⟩
abbrev main_v135 : Ref sig .tc := ⟨.hbm, 883, rfl⟩
abbrev main_cst_21 : Ref sig .tc := ⟨.hbm, 884, rfl⟩
abbrev main_v136 : Ref sig .tc := ⟨.hbm, 885, rfl⟩
abbrev main_v137 : Ref sig .tc := ⟨.hbm, 886, rfl⟩
abbrev main_v138 : Ref sig .tc := ⟨.hbm, 887, rfl⟩
abbrev main_v139 : Ref sig .tc := ⟨.hbm, 888, rfl⟩
abbrev main_v140 : Ref sig .tc := ⟨.hbm, 889, rfl⟩
abbrev main_v141 : Ref sig .tc := ⟨.hbm, 890, rfl⟩
abbrev main_cst_22 : Ref sig .tc := ⟨.hbm, 891, rfl⟩
abbrev main_v142 : Ref sig .tc := ⟨.hbm, 892, rfl⟩
abbrev main_v143 : Ref sig .tc := ⟨.hbm, 893, rfl⟩
abbrev main_v144 : Ref sig .tc := ⟨.hbm, 894, rfl⟩
abbrev main_v145 : Ref sig .tc := ⟨.hbm, 895, rfl⟩
abbrev main_v146 : Ref sig .tc := ⟨.hbm, 896, rfl⟩
abbrev main_v147 : Ref sig .tc := ⟨.hbm, 897, rfl⟩

abbrev nD : Nat := 1
abbrev τ : Topo := Topo.v7x

variable {F : FTy → Type} [FloatOps F]
-- ==== Proof.Ssa.lean ====
/- Equations for a line of host operations in which every value has a buffer of its own.

   `Line p lo hi E` says that `p` is a straight line of host operations writing only buffers numbered `lo` and up, and
   that a valuation `W` which agrees, on all buffers numbered below `hi`, with what the line leaves satisfies `E`. As
   the buffers are numbered in program order, an operation's equation (its result is its function of its operands)
   survives everything after it, so that lines compose by conjunction and the contents at the end satisfy the
   equations of all operations at once. -/
module

public import Idealize.ShloMosaic.Lib.StableHlo.RunHlo

@[expose] public section

noncomputable section

namespace Cert.Ssa

open Idealize.ShloMosaic Idealize.ShloMosaic.StableHlo Idealize.SL.Sem

variable {nD : Nat} {τ : Topo} {sig : RefSig} {Val : EltTy → Type} {Λ : Labels}

/-- A TensorCore reference's number among the buffers of its space. -/
def rk (r : Ref sig .tc) : ℕ := r.idx.val

/-- What a valuation holds at a TensorCore reference. -/
def at_ (W : Valuation τ sig Val) (r : Ref sig .tc) : r.ty.Contents Val := W (Proc.devRef .tc r)

/-- What a valuation holds at a typed reference, at the type of its value. -/
def rd {T : BufTy} (W : Valuation τ sig Val) (x : TRef sig T) : T.Contents Val := x.ofBuf (at_ W x.ref)

/-- A straight line of host operations writing no buffer below `lo`, and what it leaves below `hi`. -/
def Line (p : Prog (TpuEff nD τ sig Val Λ .tc) PUnit) (lo hi : ℕ) (E : Valuation τ sig Val → Prop) : Prop :=
  ∃ ops : List (HloOp τ sig Val), p = seq ops ∧ (ops.Forall fun op => op.bufs ⊆ tcRefs τ sig)
    ∧ (∀ op ∈ ops, op.fresh = ∅)
    ∧ (∀ op ∈ ops, ∀ r : Ref sig .tc, Proc.devRef .tc r ∈ op.writes → lo ≤ rk r)
    ∧ ∀ V W : Valuation τ sig Val, (∀ r : Ref sig .tc, rk r < hi → at_ W r = at_ (after ops V) r) → E W

/-- What a line gives may be weakened. -/
theorem Line.mono {p : Prog (TpuEff nD τ sig Val Λ .tc) PUnit} {lo hi : ℕ} {E E' : Valuation τ sig Val → Prop}
    (h : Line p lo hi E) (hE : ∀ W, E W → E' W) : Line p lo hi E' := by
  obtain ⟨ops, h1, h2, h3, h4, h5⟩ := h
  exact ⟨ops, h1, h2, h3, h4, fun V W hW => hE W (h5 V W hW)⟩

theorem after_append (l l' : List (HloOp τ sig Val)) (V : Valuation τ sig Val) :
    after (l ++ l') V = after l' (after l V) := by
  induction l generalizing V with
  | nil => rfl
  | cons op l ih => exact ih _

/-- Two lines in a row give what both give, if the second writes above what the first is read at. -/
theorem Line.seq {p q : Prog (TpuEff nD τ sig Val Λ .tc) PUnit} {lo mid lo' hi : ℕ} {E E' : Valuation τ sig Val → Prop}
    (h : Line p lo mid E) (h' : Line q lo' hi E') (hb : (Nat.ble lo lo' && Nat.ble mid lo' && Nat.ble mid hi) = true) :
    Line (p >>= fun _ => q) lo hi (fun W => E W ∧ E' W) := by
  obtain ⟨ops, h1, h2, h3, h4, h5⟩ := h
  obtain ⟨ops', h1', h2', h3', h4', h5'⟩ := h'
  simp only [Bool.and_eq_true, Nat.ble_eq] at hb
  obtain ⟨⟨b1, b2⟩, b3⟩ := hb
  refine ⟨ops ++ ops', by rw [h1, h1', seq_append], ?_, ?_, ?_, ?_⟩
  · rw [List.forall_iff_forall_mem] at *
    intro op hop
    rcases List.mem_append.mp hop with h | h
    exacts [h2 op h, h2' op h]
  · intro op hop
    rcases List.mem_append.mp hop with h | h
    exacts [h3 op h, h3' op h]
  · intro op hop r hr
    rcases List.mem_append.mp hop with h | h
    exacts [h4 op h r hr, b1.trans (h4' op h r hr)]
  · intro V W hW
    rw [after_append] at hW
    refine ⟨h5 V W fun r hr => ?_, h5' _ W hW⟩
    rw [hW r (by omega)]
    exact after_of_forall_not_mem ops' _ fun op hop hb => by have := h4' op hop r hb; omega

/-- A line closed by the return. -/
theorem Line.last {p : Prog (TpuEff nD τ sig Val Λ .tc) PUnit} {lo hi : ℕ} {E : Valuation τ sig Val → Prop}
    (h : Line p lo hi E) : Line (p >>= fun _ => pure ⟨⟩) lo hi E := by
  have : (p >>= fun _ => pure ⟨⟩) = p := bind_pure p
  rw [this]; exact h

/-- One operation writing one buffer. -/
theorem Line.one {op : HloOp τ sig Val} {y : Ref sig .tc} {E : Valuation τ sig Val → Prop}
    (hs : op.bufs ⊆ tcRefs τ sig) (hf : op.fresh = ∅) (hw : op.writes = {Proc.devRef .tc y})
    (hE : ∀ V W : Valuation τ sig Val, at_ W y = at_ (op.result V) y → (∀ r : Ref sig .tc, rk r < rk y → at_ W r = at_ V r) → E W) :
    Line (nD := nD) (Λ := Λ) (hlo rfl op fun _ => .ret (⟨⟩ : PUnit)) (rk y) (rk y + 1) E := by
  refine ⟨[op], rfl, ?_, ?_, ?_, ?_⟩
  · exact hs
  · intro o ho; rw [List.mem_singleton.mp ho]; exact hf
  · intro o ho r hr
    rw [List.mem_singleton.mp ho, hw, Finset.mem_singleton] at hr
    rw [Proc.devRef_injective _ hr]
  · intro V W hW
    refine hE V W (hW y (by omega)) fun r hr => ?_
    rw [hW r (by omega)]
    refine op.result_of_not_mem V ?_
    rw [hw, Finset.mem_singleton]
    intro e
    rw [Proc.devRef_injective _ e] at hr
    omega

section Ops

variable {x a b c e y : Ref sig .tc}

theorem Line.nullary (v : y.ty.Contents Val) (hy) :
    Line (nD := nD) (Λ := Λ) (hlo rfl (StableHlo.nullary (τ := τ) y v hy) fun _ => .ret (⟨⟩ : PUnit)) (rk y) (rk y + 1) fun W => at_ W y = v :=
  Line.one (nullary_bufs_sub ..) rfl rfl fun V W h _ => h.trans (nullary_result ..)

theorem Line.unary (f : x.ty.Contents Val → y.ty.Contents Val) (hx hy) (hb : Nat.blt (rk x) (rk y) = true) :
    Line (nD := nD) (Λ := Λ) (hlo rfl (StableHlo.unary (τ := τ) x y f hx hy) fun _ => .ret (⟨⟩ : PUnit)) (rk y) (rk y + 1)
      fun W => at_ W y = f (at_ W x) :=
  Line.one (unary_bufs_sub ..) rfl rfl fun V W h k => by
    rw [h, k x (by simpa only [Nat.blt_eq] using hb)]; exact unary_result ..

theorem Line.binary (f : a.ty.Contents Val → b.ty.Contents Val → y.ty.Contents Val) (ha hb hy)
    (h : (Nat.blt (rk a) (rk y) && Nat.blt (rk b) (rk y)) = true) :
    Line (nD := nD) (Λ := Λ) (hlo rfl (StableHlo.binary (τ := τ) a b y f ha hb hy) fun _ => .ret (⟨⟩ : PUnit)) (rk y) (rk y + 1)
      fun W => at_ W y = f (at_ W a) (at_ W b) :=
  Line.one (binary_bufs_sub ..) rfl rfl fun V W e k => by
    simp only [Bool.and_eq_true, Nat.blt_eq] at h
    rw [e, k a h.1, k b h.2]; exact binary_result ..

theorem Line.ternary (f : c.ty.Contents Val → a.ty.Contents Val → b.ty.Contents Val → y.ty.Contents Val) (hc ha hb hy)
    (h : (Nat.blt (rk c) (rk y) && Nat.blt (rk a) (rk y) && Nat.blt (rk b) (rk y)) = true) :
    Line (nD := nD) (Λ := Λ) (hlo rfl (StableHlo.ternary (τ := τ) c a b y f hc ha hb hy) fun _ => .ret (⟨⟩ : PUnit)) (rk y) (rk y + 1)
      fun W => at_ W y = f (at_ W c) (at_ W a) (at_ W b) :=
  Line.one (ternary_bufs_sub ..) rfl rfl fun V W e k => by
    simp only [Bool.and_eq_true, Nat.blt_eq] at h
    rw [e, k c h.1.1, k a h.1.2, k b h.2]; exact ternary_result ..

theorem Line.quaternary
    (f : a.ty.Contents Val → b.ty.Contents Val → c.ty.Contents Val → e.ty.Contents Val → y.ty.Contents Val) (ha hb hc he hy)
    (h : (Nat.blt (rk a) (rk y) && Nat.blt (rk b) (rk y) && Nat.blt (rk c) (rk y) && Nat.blt (rk e) (rk y)) = true) :
    Line (nD := nD) (Λ := Λ) (hlo rfl (StableHlo.quaternary (τ := τ) a b c e y f ha hb hc he hy) fun _ => .ret (⟨⟩ : PUnit)) (rk y)
      (rk y + 1) fun W => at_ W y = f (at_ W a) (at_ W b) (at_ W c) (at_ W e) :=
  Line.one (quaternary_bufs_sub ..) rfl rfl fun V W e' k => by
    simp only [Bool.and_eq_true, Nat.blt_eq] at h
    rw [e', k a h.1.1.1, k b h.1.1.2, k c h.1.2, k e h.2]; exact quaternary_result ..

theorem Line.reshape (he : x.ty.elt = y.ty.elt) (hn : x.ty.shape.ShapeCasts y.ty.shape) (hx hy)
    (hb : Nat.blt (rk x) (rk y) = true) :
    Line (nD := nD) (Λ := Λ) (hlo rfl (StableHlo.reshape (τ := τ) (Val := Val) x y he hn hx hy) fun _ => .ret (⟨⟩ : PUnit)) (rk y) (rk y + 1)
      fun W => at_ W y = fun i => he ▸ shapeCast y.ty.shape (at_ W x) hn i :=
  Line.one (reshape_bufs_sub ..) rfl rfl fun V W h k => by
    rw [h, k x (by simpa only [Nat.blt_eq] using hb)]; exact reshape_result ..

end Ops

section Typed

variable {Tx Ta Tb Tc Te Ty : BufTy} {x : TRef sig Tx} {a : TRef sig Ta} {b : TRef sig Tb} {c : TRef sig Tc} {e : TRef sig Te}
  {y : TRef sig Ty}

theorem Line.tnullary (v : Ty.Contents Val) :
    Line (nD := nD) (Λ := Λ) (hlo rfl (TRef.nullary (τ := τ) y v) fun _ => .ret (⟨⟩ : PUnit)) (rk y.ref) (rk y.ref + 1) fun W => rd W y = v := by
  obtain ⟨y, rfl, _, _⟩ := y; exact Line.nullary _ _

theorem Line.tunary (f : Tx.Contents Val → Ty.Contents Val) (hb : Nat.blt (rk x.ref) (rk y.ref) = true) :
    Line (nD := nD) (Λ := Λ) (hlo rfl (TRef.unary (τ := τ) x y f) fun _ => .ret (⟨⟩ : PUnit)) (rk y.ref) (rk y.ref + 1)
      fun W => rd W y = f (rd W x) := by
  obtain ⟨x, rfl, _, _⟩ := x; obtain ⟨y, rfl, _, _⟩ := y; exact Line.unary _ _ _ hb

theorem Line.tbinary (f : Ta.Contents Val → Tb.Contents Val → Ty.Contents Val)
    (h : (Nat.blt (rk a.ref) (rk y.ref) && Nat.blt (rk b.ref) (rk y.ref)) = true) :
    Line (nD := nD) (Λ := Λ) (hlo rfl (TRef.binary (τ := τ) a b y f) fun _ => .ret (⟨⟩ : PUnit)) (rk y.ref) (rk y.ref + 1)
      fun W => rd W y = f (rd W a) (rd W b) := by
  obtain ⟨a, rfl, _, _⟩ := a; obtain ⟨b, rfl, _, _⟩ := b; obtain ⟨y, rfl, _, _⟩ := y; exact Line.binary _ _ _ _ h

theorem Line.tquaternary (f : Ta.Contents Val → Tb.Contents Val → Tc.Contents Val → Te.Contents Val → Ty.Contents Val)
    (h : (Nat.blt (rk a.ref) (rk y.ref) && Nat.blt (rk b.ref) (rk y.ref) && Nat.blt (rk c.ref) (rk y.ref) && Nat.blt (rk e.ref) (rk y.ref)) = true) :
    Line (nD := nD) (Λ := Λ) (hlo rfl (TRef.quaternary (τ := τ) a b c e y f) fun _ => .ret (⟨⟩ : PUnit)) (rk y.ref) (rk y.ref + 1)
      fun W => rd W y = f (rd W a) (rd W b) (rd W c) (rd W e) := by
  obtain ⟨a, rfl, _, _⟩ := a; obtain ⟨b, rfl, _, _⟩ := b; obtain ⟨c, rfl, _, _⟩ := c; obtain ⟨e, rfl, _, _⟩ := e
  obtain ⟨y, rfl, _, _⟩ := y; exact Line.quaternary _ _ _ _ _ _ h

theorem Line.treshape (he : Tx.elt = Ty.elt) (hn : Tx.shape.ShapeCasts Ty.shape)
    (hb : Nat.blt (rk x.ref) (rk y.ref) = true) :
    Line (nD := nD) (Λ := Λ) (hlo rfl (TRef.reshape (τ := τ) (Val := Val) x y he hn) fun _ => .ret (⟨⟩ : PUnit)) (rk y.ref) (rk y.ref + 1)
      fun W => rd W y = fun i => he ▸ shapeCast Ty.shape (rd W x) hn i := by
  obtain ⟨x, rfl, _, _⟩ := x; obtain ⟨y, rfl, _, _⟩ := y; exact Line.reshape _ _ _ _ hb

end Typed

/-- The run of a program that is a line writing no buffer below `lo`: the buffers below `lo` end as launched, and the
    final contents satisfy what the line gives. -/
theorem Line.run {lo hi : ℕ} {E : Valuation τ sig Val → Prop} (defs : Defs nD τ sig Val Λ)
    (main : Dev nD → Prog (TpuEff nD τ sig Val Λ .tc) PUnit) (h : ∀ d, Line (main d) lo hi E)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r => ∀ d : Dev nD, ∃ W : Valuation τ sig Val, E W
      ∧ (∀ b : Ref sig .tc, r.2.mem ((d.tc : Thread nD τ).loc b) = at_ W b)
      ∧ ∀ b : Ref sig .tc, rk b < lo → at_ W b = m ((d.tc : Thread nD τ).loc b) := by
  choose ops h1 h2 h3 h4 h5 using h
  refine θ_run_mono (run_seq hR hC defs main ops h1 h2 m ρ h3) fun r hr d => ?_
  refine ⟨after (ops d) (launchContents m d), h5 d _ _ fun _ _ => rfl, hr d, fun b hb => ?_⟩
  exact after_of_forall_not_mem (ops d) _ fun op hop hm => by have := h4 d op hop b hm; omega

end Cert.Ssa

end
-- ==== Proof.Threefry.lean ====
/- The Threefry 2x32 block function on words, and how a vector computation of it reads at an index.

   `mix r s` is one round with the rotation written as a shift left by `r` and a shift right by `s`; `inject` adds a pair
   of key words and the round counter. `mix_of` and `inject_of` state these of the vectors that a host program names,
   one equation per operation, at an index. -/
module

public import Idealize.ShloMosaic.PureOps

@[expose] public section

namespace Cert.Threefry

open Idealize.ShloMosaic

/-- One round: the sum of the two words, and the second word rotated and combined with it. -/
def mix (r s : BitVec 32) (p : BitVec 32 × BitVec 32) : BitVec 32 × BitVec 32 :=
  (p.1 + p.2, (p.1 + p.2) ^^^ ((p.2 <<< r) ||| (p.2 >>> s)))

/-- Adding key words `k`, `k'` and the counter `c`. -/
def inject (k k' c : BitVec 32) (p : BitVec 32 × BitVec 32) : BitVec 32 × BitVec 32 :=
  (p.1 + k, p.2 + k' + c)

/-- The four rounds of an even group. -/
def even4 (p : BitVec 32 × BitVec 32) : BitVec 32 × BitVec 32 :=
  mix 6#32 26#32 (mix 26#32 6#32 (mix 15#32 17#32 (mix 13#32 19#32 p)))

/-- The four rounds of an odd group. -/
def odd4 (p : BitVec 32 × BitVec 32) : BitVec 32 × BitVec 32 :=
  mix 24#32 8#32 (mix 16#32 16#32 (mix 29#32 3#32 (mix 17#32 15#32 p)))

/-- The third key word. -/
def third (k0 k1 : BitVec 32) : BitVec 32 := k0 ^^^ k1 ^^^ 466688986#32

/-- Threefry 2x32 with 20 rounds: the block `(x0, x1)` under the key `(k0, k1)`. -/
def block (k0 k1 x0 x1 : BitVec 32) : BitVec 32 × BitVec 32 :=
  inject (third k0 k1) k0 5#32 <| even4 <| inject k1 (third k0 k1) 4#32 <| odd4 <| inject k0 k1 3#32 <| even4 <|
    inject (third k0 k1) k0 2#32 <| odd4 <| inject k1 (third k0 k1) 1#32 <| even4 (x0 + k0, x1 + k1)

section Vector

variable {s s0 : Shape} {dims : Fin s0.rank → Fin s.rank}

/-- One round of a host program at an index: the nine operations' equations, in program order. -/
theorem mix_of (j : s.Idx) {x0 x1 y bl l br r o z : IVec s 32} {cl cr : IVec s0 32} {kl kr : BitVec 32}
    {h h' : s0.BroadcastsInDim s dims} (ey : y = addi x0 x1) (ecl : cl = constantI s0 32 kl)
    (ebl : bl = broadcastInDim s dims h cl) (el : l = Host.shli x1 bl) (ecr : cr = constantI s0 32 kr)
    (ebr : br = broadcastInDim s dims h' cr) (er : r = Host.shrui x1 br) (eo : o = ori l r) (ez : z = xori y o)
    {p : BitVec 32 × BitVec 32} (hp : (x0 j, x1 j) = p)
    (hkl : kl.toNat < 32 := by decide) (hkr : kr.toNat < 32 := by decide) : (y j, z j) = mix kl kr p := by
  subst hp
  have e1 : y j = x0 j + x1 j := by rw [ey]; rfl
  have e2 : z j = y j ^^^ (l j ||| r j) := by rw [ez, eo]; rfl
  have e3 : l j = x1 j <<< kl := by rw [el, ebl, ecl]; exact if_pos hkl
  have e4 : r j = x1 j >>> kr := by rw [er, ebr, ecr]; exact if_pos hkr
  rw [e2, e3, e4, e1]; rfl

/-- One key injection of a host program at an index: its seven operations' equations, in program order; the two
    operands that hold the key words are given at the index. -/
theorem inject_of (j : s.Idx) {x0 x1 y a b a' b' c : IVec s 32} {cc : IVec s0 32} {t : BitVec 32}
    {h : s0.BroadcastsInDim s dims} {k k' : BitVec 32} (ha : a j = k) (ey : y = addi x0 a) (hb : b j = k')
    (ed : a' = addi x1 b) (ec : cc = constantI s0 32 t) (eb : b' = broadcastInDim s dims h cc) (ez : c = addi a' b')
    {p : BitVec 32 × BitVec 32} (hp : (x0 j, x1 j) = p) : (y j, c j) = inject k k' t p := by
  subst hp
  rw [ey, ez, ed, eb, ec, ← ha, ← hb]; rfl

end Vector

end Cert.Threefry
-- ==== Proof.RefHash.lean ====
/- The reference's three hash functions: what a call of each leaves in its result buffers, at an index. -/
module

public import proofs.«01_k».proof.Proof.Ssa
public import proofs.«01_k».proof.Proof.Threefry
public import proofs.«01_k».proof.Proof.Gen.ReferenceIdeal

@[expose] public section

set_option maxRecDepth 16384

noncomputable section

namespace Cert.RefHash

open Idealize.ShloMosaic Idealize.ShloMosaic.StableHlo Idealize.SL.Sem Cert.ReferenceIdeal Cert.Ssa Cert.Threefry
open Cert.ReferenceIdeal.Facts₀ Cert.ReferenceIdeal.Facts

variable {F : FTy → Type} [FloatOps F]

/-- What a valuation holds, at an index of the first hash call: the block function of the operands. -/
theorem foldHash : Line (nD := nD) (τ := τ)
    (fn_threefry2x32.body (F := F) main_call0.v8 main_call0.v10 main_call0.v11 main_call0.v12 main_call0_call0)
    (rk main_call0_call0.v0.ref) (rk main_call0_call0.v175.ref + 1) fun W =>
    ∀ j : S2x1.Idx, (rd W main_call0_call0.v171 j, rd W main_call0_call0.v175 j)
      = block (broadcastInDim S2x1 ![] bcast_S_S2x1 (rd W main_call0.v8) j) (broadcastInDim S2x1 ![] bcast_S_S2x1 (rd W main_call0.v10) j)
          (rd W main_call0.v11 j) (rd W main_call0.v12 j) := by
  apply Line.mono
  · unfold fn_threefry2x32.body fn_threefry2x32.body_part0 fn_threefry2x32.body_part1 fn_threefry2x32.body_part2 fn_threefry2x32.body_part3
    repeat' first
      | with_reducible apply Line.last
      | with_reducible apply Line.seq
      | with_reducible exact Line.tnullary _
      | with_reducible apply Line.tunary
      | with_reducible apply Line.tbinary
      | exact rfl
  · intro W h j
    obtain ⟨⟨e1, e2, e3, e4, e5, e6, e7, e8, e9, e10, e11, e12, e13, e14, e15, e16, e17, e18, e19, e20, e21, e22, e23, e24,
      e25, e26, e27, e28, e29, e30, e31, e32, e33, e34, e35, e36, e37, e38, e39, e40, e41, e42, e43, e44, e45, e46, e47, e48,
      e49, e50, e51, e52, e53, e54, e55, e56, e57, e58, e59, e60⟩, ⟨e61, e62, e63, e64, e65, e66, e67, e68, e69, e70, e71,
      e72, e73, e74, e75, e76, e77, e78, e79, e80, e81, e82, e83, e84, e85, e86, e87, e88, e89, e90, e91, e92, e93, e94, e95,
      e96, e97, e98, e99, e100, e101, e102, e103, e104, e105, e106, e107, e108, e109, e110, e111, e112, e113, e114, e115,
      e116, e117, e118, e119, e120⟩, ⟨e121, e122, e123, e124, e125, e126, e127, e128, e129, e130, e131, e132, e133, e134,
      e135, e136, e137, e138, e139, e140, e141, e142, e143, e144, e145, e146, e147, e148, e149, e150, e151, e152, e153, e154,
      e155, e156, e157, e158, e159, e160, e161, e162, e163, e164, e165, e166, e167, e168, e169, e170, e171, e172, e173, e174,
      e175, e176, e177, e178, e179, e180⟩, ⟨e181, e182, e183, e184, e185, e186, e187, e188, e189, e190, e191, e192, e193,
      e194, e195, e196, e197, e198, e199, e200, e201, e202, e203, e204, e205, e206, e207, e208, e209, e210, e211, e212, e213,
      e214, e215, e216, e217, e218, e219, e220, e221, e222⟩⟩ := h
    have k0 := fun {v : IVec S2x1 32} (e : v = broadcastInDim S2x1 ![] bcast_S_S2x1 (rd W main_call0.v8)) => congrFun e j
    have k1 := fun {v : IVec S2x1 32} (e : v = broadcastInDim S2x1 ![] bcast_S_S2x1 (rd W main_call0.v10)) => congrFun e j
    have k2 := fun {v : IVec S2x1 32} (e : v = broadcastInDim S2x1 ![] bcast_S_S2x1 (rd W main_call0_call0.v1)) =>
      (congrFun e j).trans (show _ = third (broadcastInDim S2x1 ![] bcast_S_S2x1 (rd W main_call0.v8) j)
        (broadcastInDim S2x1 ![] bcast_S_S2x1 (rd W main_call0.v10) j) from by rw [e3, e1, e2]; rfl)
    have q : (rd W main_call0_call0.v3 j, rd W main_call0_call0.v5 j)
        = (rd W main_call0.v11 j + broadcastInDim S2x1 ![] bcast_S_S2x1 (rd W main_call0.v8) j,
          rd W main_call0.v12 j + broadcastInDim S2x1 ![] bcast_S_S2x1 (rd W main_call0.v10) j) := by rw [e5, e7, e4, e6]; rfl
    replace q := mix_of j e8 e9 e10 e11 e12 e13 e14 e15 e16 q
    replace q := mix_of j e17 e18 e19 e20 e21 e22 e23 e24 e25 q
    replace q := mix_of j e26 e27 e28 e29 e30 e31 e32 e33 e34 q
    replace q := mix_of j e35 e36 e37 e38 e39 e40 e41 e42 e43 q
    replace q := inject_of j (k1 e44) e45 (k2 e46) e47 e48 e49 e50 q
    replace q := mix_of j e51 e52 e53 e54 e55 e56 e57 e58 e59 q
    replace q := mix_of j e60 e61 e62 e63 e64 e65 e66 e67 e68 q
    replace q := mix_of j e69 e70 e71 e72 e73 e74 e75 e76 e77 q
    replace q := mix_of j e78 e79 e80 e81 e82 e83 e84 e85 e86 q
    replace q := inject_of j (k2 e87) e88 (k0 e89) e90 e91 e92 e93 q
    replace q := mix_of j e94 e95 e96 e97 e98 e99 e100 e101 e102 q
    replace q := mix_of j e103 e104 e105 e106 e107 e108 e109 e110 e111 q
    replace q := mix_of j e112 e113 e114 e115 e116 e117 e118 e119 e120 q
    replace q := mix_of j e121 e122 e123 e124 e125 e126 e127 e128 e129 q
    replace q := inject_of j (k0 e130) e131 (k1 e132) e133 e134 e135 e136 q
    replace q := mix_of j e137 e138 e139 e140 e141 e142 e143 e144 e145 q
    replace q := mix_of j e146 e147 e148 e149 e150 e151 e152 e153 e154 q
    replace q := mix_of j e155 e156 e157 e158 e159 e160 e161 e162 e163 q
    replace q := mix_of j e164 e165 e166 e167 e168 e169 e170 e171 e172 q
    replace q := inject_of j (k1 e173) e174 (k2 e175) e176 e177 e178 e179 q
    replace q := mix_of j e180 e181 e182 e183 e184 e185 e186 e187 e188 q
    replace q := mix_of j e189 e190 e191 e192 e193 e194 e195 e196 e197 q
    replace q := mix_of j e198 e199 e200 e201 e202 e203 e204 e205 e206 q
    replace q := mix_of j e207 e208 e209 e210 e211 e212 e213 e214 e215 q
    replace q := inject_of j (k2 e216) e217 (k0 e218) e219 e220 e221 e222 q
    exact q

/-- What a valuation holds, at an index of the second hash call: the block function of the operands. -/
theorem splitHash : Line (nD := nD) (τ := τ)
    (fn_threefry2x32_0.body (F := F) main_call1.v13 main_call1.v14 main_call1.v11 main_call1.v12 main_call1_call0)
    (rk main_call1_call0.v0.ref) (rk main_call1_call0.v178.ref + 1) fun W =>
    ∀ j : S2x18.Idx, (rd W main_call1_call0.v174 j, rd W main_call1_call0.v178 j)
      = block (broadcastInDim S2x18 ![0, 1] bcast_S2x1_S2x18_0_1 (rd W main_call1.v13) j) (broadcastInDim S2x18 ![0, 1] bcast_S2x1_S2x18_0_1 (rd W main_call1.v14) j)
          (broadcastInDim S2x18 ![0, 1] bcast_S1x18_S2x18_0_1 (rd W main_call1.v11) j) (broadcastInDim S2x18 ![0, 1] bcast_S1x18_S2x18_0_1 (rd W main_call1.v12) j) := by
  apply Line.mono
  · unfold fn_threefry2x32_0.body fn_threefry2x32_0.body_part0 fn_threefry2x32_0.body_part1 fn_threefry2x32_0.body_part2 fn_threefry2x32_0.body_part3
    repeat' first
      | with_reducible apply Line.last
      | with_reducible apply Line.seq
      | with_reducible exact Line.tnullary _
      | with_reducible apply Line.tunary
      | with_reducible apply Line.tbinary
      | exact rfl
  · intro W h j
    obtain ⟨⟨e1, e2, e3, e4, e5, e6, e7, e8, e9, e10, e11, e12, e13, e14, e15, e16, e17, e18, e19, e20, e21, e22, e23, e24,
      e25, e26, e27, e28, e29, e30, e31, e32, e33, e34, e35, e36, e37, e38, e39, e40, e41, e42, e43, e44, e45, e46, e47, e48,
      e49, e50, e51, e52, e53, e54, e55, e56, e57, e58, e59, e60⟩, ⟨e61, e62, e63, e64, e65, e66, e67, e68, e69, e70, e71,
      e72, e73, e74, e75, e76, e77, e78, e79, e80, e81, e82, e83, e84, e85, e86, e87, e88, e89, e90, e91, e92, e93, e94, e95,
      e96, e97, e98, e99, e100, e101, e102, e103, e104, e105, e106, e107, e108, e109, e110, e111, e112, e113, e114, e115,
      e116, e117, e118, e119, e120⟩, ⟨e121, e122, e123, e124, e125, e126, e127, e128, e129, e130, e131, e132, e133, e134,
      e135, e136, e137, e138, e139, e140, e141, e142, e143, e144, e145, e146, e147, e148, e149, e150, e151, e152, e153, e154,
      e155, e156, e157, e158, e159, e160, e161, e162, e163, e164, e165, e166, e167, e168, e169, e170, e171, e172, e173, e174,
      e175, e176, e177, e178, e179, e180⟩, ⟨e181, e182, e183, e184, e185, e186, e187, e188, e189, e190, e191, e192, e193,
      e194, e195, e196, e197, e198, e199, e200, e201, e202, e203, e204, e205, e206, e207, e208, e209, e210, e211, e212, e213,
      e214, e215, e216, e217, e218, e219, e220, e221, e222, e223, e224, e225⟩⟩ := h
    have k0 := fun {v : IVec S2x18 32} (e : v = broadcastInDim S2x18 ![0, 1] bcast_S2x1_S2x18_0_1 (rd W main_call1.v13)) => congrFun e j
    have k1 := fun {v : IVec S2x18 32} (e : v = broadcastInDim S2x18 ![0, 1] bcast_S2x1_S2x18_0_1 (rd W main_call1.v14)) => congrFun e j
    have k2 := fun {v : IVec S2x18 32} (e : v = broadcastInDim S2x18 ![0, 1] bcast_S2x1_S2x18_0_1 (rd W main_call1_call0.v2)) =>
      (congrFun e j).trans (show _ = third (broadcastInDim S2x18 ![0, 1] bcast_S2x1_S2x18_0_1 (rd W main_call1.v13) j)
        (broadcastInDim S2x18 ![0, 1] bcast_S2x1_S2x18_0_1 (rd W main_call1.v14) j) from by rw [e4, e1, e3, e2]; rfl)
    have q : (rd W main_call1_call0.v5 j, rd W main_call1_call0.v8 j)
        = (broadcastInDim S2x18 ![0, 1] bcast_S1x18_S2x18_0_1 (rd W main_call1.v11) j + broadcastInDim S2x18 ![0, 1] bcast_S2x1_S2x18_0_1 (rd W main_call1.v13) j,
          broadcastInDim S2x18 ![0, 1] bcast_S1x18_S2x18_0_1 (rd W main_call1.v12) j + broadcastInDim S2x18 ![0, 1] bcast_S2x1_S2x18_0_1 (rd W main_call1.v14) j) := by rw [e7, e10, e5, e6, e8, e9]; rfl
    replace q := mix_of j e11 e12 e13 e14 e15 e16 e17 e18 e19 q
    replace q := mix_of j e20 e21 e22 e23 e24 e25 e26 e27 e28 q
    replace q := mix_of j e29 e30 e31 e32 e33 e34 e35 e36 e37 q
    replace q := mix_of j e38 e39 e40 e41 e42 e43 e44 e45 e46 q
    replace q := inject_of j (k1 e47) e48 (k2 e49) e50 e51 e52 e53 q
    replace q := mix_of j e54 e55 e56 e57 e58 e59 e60 e61 e62 q
    replace q := mix_of j e63 e64 e65 e66 e67 e68 e69 e70 e71 q
    replace q := mix_of j e72 e73 e74 e75 e76 e77 e78 e79 e80 q
    replace q := mix_of j e81 e82 e83 e84 e85 e86 e87 e88 e89 q
    replace q := inject_of j (k2 e90) e91 (k0 e92) e93 e94 e95 e96 q
    replace q := mix_of j e97 e98 e99 e100 e101 e102 e103 e104 e105 q
    replace q := mix_of j e106 e107 e108 e109 e110 e111 e112 e113 e114 q
    replace q := mix_of j e115 e116 e117 e118 e119 e120 e121 e122 e123 q
    replace q := mix_of j e124 e125 e126 e127 e128 e129 e130 e131 e132 q
    replace q := inject_of j (k0 e133) e134 (k1 e135) e136 e137 e138 e139 q
    replace q := mix_of j e140 e141 e142 e143 e144 e145 e146 e147 e148 q
    replace q := mix_of j e149 e150 e151 e152 e153 e154 e155 e156 e157 q
    replace q := mix_of j e158 e159 e160 e161 e162 e163 e164 e165 e166 q
    replace q := mix_of j e167 e168 e169 e170 e171 e172 e173 e174 e175 q
    replace q := inject_of j (k1 e176) e177 (k2 e178) e179 e180 e181 e182 q
    replace q := mix_of j e183 e184 e185 e186 e187 e188 e189 e190 e191 q
    replace q := mix_of j e192 e193 e194 e195 e196 e197 e198 e199 e200 q
    replace q := mix_of j e201 e202 e203 e204 e205 e206 e207 e208 e209 q
    replace q := mix_of j e210 e211 e212 e213 e214 e215 e216 e217 e218 q
    replace q := inject_of j (k2 e219) e220 (k0 e221) e222 e223 e224 e225 q
    exact q

/-- The third hash call's operands, at their types. -/
abbrev r27 : TRef sig ⟨S2x18x1x1, .i32⟩ := .of main_v27
@[inherit_doc r27] abbrev r28 : TRef sig ⟨S2x18x1x1, .i32⟩ := .of main_v28
@[inherit_doc r27] abbrev r29 : TRef sig ⟨S1x1x4096x6, .i32⟩ := .of main_v29
@[inherit_doc r27] abbrev r30 : TRef sig ⟨S1x1x4096x6, .i32⟩ := .of main_v30

/-- What a valuation holds, at an index of the third hash call: the block function of the operands. -/
theorem bitsHash : Line (nD := nD) (τ := τ)
    (fn_threefry2x32_1.body (F := F) r27 r28 r29 r30 main_call2)
    (rk main_call2.v0.ref) (rk main_call2.v178.ref + 1) fun W =>
    ∀ j : S2x18x4096x6.Idx, (rd W main_call2.v174 j, rd W main_call2.v178 j)
      = block (broadcastInDim S2x18x4096x6 ![0, 1, 2, 3] bcast_S2x18x1x1_S2x18x4096x6_0_1_2_3 (rd W r27) j) (broadcastInDim S2x18x4096x6 ![0, 1, 2, 3] bcast_S2x18x1x1_S2x18x4096x6_0_1_2_3 (rd W r28) j)
          (broadcastInDim S2x18x4096x6 ![0, 1, 2, 3] bcast_S1x1x4096x6_S2x18x4096x6_0_1_2_3 (rd W r29) j) (broadcastInDim S2x18x4096x6 ![0, 1, 2, 3] bcast_S1x1x4096x6_S2x18x4096x6_0_1_2_3 (rd W r30) j) := by
  apply Line.mono
  · unfold fn_threefry2x32_1.body fn_threefry2x32_1.body_part0 fn_threefry2x32_1.body_part1 fn_threefry2x32_1.body_part2 fn_threefry2x32_1.body_part3
    repeat' first
      | with_reducible apply Line.last
      | with_reducible apply Line.seq
      | with_reducible exact Line.tnullary _
      | with_reducible apply Line.tunary
      | with_reducible apply Line.tbinary
      | exact rfl
  · intro W h j
    obtain ⟨⟨e1, e2, e3, e4, e5, e6, e7, e8, e9, e10, e11, e12, e13, e14, e15, e16, e17, e18, e19, e20, e21, e22, e23, e24,
      e25, e26, e27, e28, e29, e30, e31, e32, e33, e34, e35, e36, e37, e38, e39, e40, e41, e42, e43, e44, e45, e46, e47, e48,
      e49, e50, e51, e52, e53, e54, e55, e56, e57, e58, e59, e60⟩, ⟨e61, e62, e63, e64, e65, e66, e67, e68, e69, e70, e71,
      e72, e73, e74, e75, e76, e77, e78, e79, e80, e81, e82, e83, e84, e85, e86, e87, e88, e89, e90, e91, e92, e93, e94, e95,
      e96, e97, e98, e99, e100, e101, e102, e103, e104, e105, e106, e107, e108, e109, e110, e111, e112, e113, e114, e115,
      e116, e117, e118, e119, e120⟩, ⟨e121, e122, e123, e124, e125, e126, e127, e128, e129, e130, e131, e132, e133, e134,
      e135, e136, e137, e138, e139, e140, e141, e142, e143, e144, e145, e146, e147, e148, e149, e150, e151, e152, e153, e154,
      e155, e156, e157, e158, e159, e160, e161, e162, e163, e164, e165, e166, e167, e168, e169, e170, e171, e172, e173, e174,
      e175, e176, e177, e178, e179, e180⟩, ⟨e181, e182, e183, e184, e185, e186, e187, e188, e189, e190, e191, e192, e193,
      e194, e195, e196, e197, e198, e199, e200, e201, e202, e203, e204, e205, e206, e207, e208, e209, e210, e211, e212, e213,
      e214, e215, e216, e217, e218, e219, e220, e221, e222, e223, e224, e225⟩⟩ := h
    have k0 := fun {v : IVec S2x18x4096x6 32} (e : v = broadcastInDim S2x18x4096x6 ![0, 1, 2, 3] bcast_S2x18x1x1_S2x18x4096x6_0_1_2_3 (rd W r27)) => congrFun e j
    have k1 := fun {v : IVec S2x18x4096x6 32} (e : v = broadcastInDim S2x18x4096x6 ![0, 1, 2, 3] bcast_S2x18x1x1_S2x18x4096x6_0_1_2_3 (rd W r28)) => congrFun e j
    have k2 := fun {v : IVec S2x18x4096x6 32} (e : v = broadcastInDim S2x18x4096x6 ![0, 1, 2, 3] bcast_S2x18x1x1_S2x18x4096x6_0_1_2_3 (rd W main_call2.v2)) =>
      (congrFun e j).trans (show _ = third (broadcastInDim S2x18x4096x6 ![0, 1, 2, 3] bcast_S2x18x1x1_S2x18x4096x6_0_1_2_3 (rd W r27) j)
        (broadcastInDim S2x18x4096x6 ![0, 1, 2, 3] bcast_S2x18x1x1_S2x18x4096x6_0_1_2_3 (rd W r28) j) from by rw [e4, e1, e3, e2]; rfl)
    have q : (rd W main_call2.v5 j, rd W main_call2.v8 j)
        = (broadcastInDim S2x18x4096x6 ![0, 1, 2, 3] bcast_S1x1x4096x6_S2x18x4096x6_0_1_2_3 (rd W r29) j + broadcastInDim S2x18x4096x6 ![0, 1, 2, 3] bcast_S2x18x1x1_S2x18x4096x6_0_1_2_3 (rd W r27) j,
          broadcastInDim S2x18x4096x6 ![0, 1, 2, 3] bcast_S1x1x4096x6_S2x18x4096x6_0_1_2_3 (rd W r30) j + broadcastInDim S2x18x4096x6 ![0, 1, 2, 3] bcast_S2x18x1x1_S2x18x4096x6_0_1_2_3 (rd W r28) j) := by rw [e7, e10, e5, e6, e8, e9]; rfl
    replace q := mix_of j e11 e12 e13 e14 e15 e16 e17 e18 e19 q
    replace q := mix_of j e20 e21 e22 e23 e24 e25 e26 e27 e28 q
    replace q := mix_of j e29 e30 e31 e32 e33 e34 e35 e36 e37 q
    replace q := mix_of j e38 e39 e40 e41 e42 e43 e44 e45 e46 q
    replace q := inject_of j (k1 e47) e48 (k2 e49) e50 e51 e52 e53 q
    replace q := mix_of j e54 e55 e56 e57 e58 e59 e60 e61 e62 q
    replace q := mix_of j e63 e64 e65 e66 e67 e68 e69 e70 e71 q
    replace q := mix_of j e72 e73 e74 e75 e76 e77 e78 e79 e80 q
    replace q := mix_of j e81 e82 e83 e84 e85 e86 e87 e88 e89 q
    replace q := inject_of j (k2 e90) e91 (k0 e92) e93 e94 e95 e96 q
    replace q := mix_of j e97 e98 e99 e100 e101 e102 e103 e104 e105 q
    replace q := mix_of j e106 e107 e108 e109 e110 e111 e112 e113 e114 q
    replace q := mix_of j e115 e116 e117 e118 e119 e120 e121 e122 e123 q
    replace q := mix_of j e124 e125 e126 e127 e128 e129 e130 e131 e132 q
    replace q := inject_of j (k0 e133) e134 (k1 e135) e136 e137 e138 e139 q
    replace q := mix_of j e140 e141 e142 e143 e144 e145 e146 e147 e148 q
    replace q := mix_of j e149 e150 e151 e152 e153 e154 e155 e156 e157 q
    replace q := mix_of j e158 e159 e160 e161 e162 e163 e164 e165 e166 q
    replace q := mix_of j e167 e168 e169 e170 e171 e172 e173 e174 e175 q
    replace q := inject_of j (k1 e176) e177 (k2 e178) e179 e180 e181 e182 q
    replace q := mix_of j e183 e184 e185 e186 e187 e188 e189 e190 e191 q
    replace q := mix_of j e192 e193 e194 e195 e196 e197 e198 e199 e200 q
    replace q := mix_of j e201 e202 e203 e204 e205 e206 e207 e208 e209 q
    replace q := mix_of j e210 e211 e212 e213 e214 e215 e216 e217 e218 q
    replace q := inject_of j (k2 e219) e220 (k0 e221) e222 e223 e224 e225 q
    exact q

end Cert.RefHash

end
-- ==== Proof.Spec.lean ====
/- The mathematics of the problem over the extended reals, entry by entry: the opponents' distributions, their sampled
   actions, the weights of the samples and the agent's mean distribution. -/
module

public import proofs.«01_k».proof.Proof.Threefry
public import Idealize.ShloMosaic.Lib.Pointwise
public import Idealize.ShloMosaic.PureOps.Ideal.Laws

@[expose] public section

noncomputable section

namespace Cert.Spec

open Idealize.ShloMosaic Cert.Threefry

/-- A vector of extended reals. -/
abbrev A1 (n : ℕ) : Type := FVec Ideal ⟨1, ![n]⟩ .f32
/-- A matrix of extended reals. -/
abbrev A2 (n k : ℕ) : Type := FVec Ideal ⟨2, ![n, k]⟩ .f32

/-- The word of minus infinity. -/
def negInf : EReal := Ideal.ofBits .f32 0xFF800000#32

theorem negInf_eq : negInf = ⊥ := by
  have h1 : (0xFF800000#32 : BitVec 32).extractLsb' 31 1 = 1#1 := by decide
  have h2 : ((0xFF800000#32 : BitVec 32).extractLsb' 23 8).toNat = 255 := by decide
  have h3 : ((0xFF800000#32 : BitVec 32).extractLsb' 0 23).toNat = 0 := by decide
  show Ideal.ieee 8 23 (0xFF800000#32 : BitVec 32) = ⊥
  unfold Ideal.ieee
  simp only [show 8 + 23 = 31 from rfl, h1, h2, h3]
  norm_num

/-- The largest of six values. -/
def top6 (v : Fin 6 → EReal) : EReal := Finset.univ.fold max negInf v

theorem max_negInf (a : EReal) : max negInf a = a := by rw [negInf_eq]; exact max_eq_right bot_le

theorem top6_eq (v : Fin 6 → EReal) :
    top6 v = max (max (max (max (max (v 0) (v 1)) (v 2)) (v 3)) (v 4)) (v 5) := by
  unfold top6
  rw [negInf_eq]
  have : (Finset.univ : Finset (Fin 6)) = {0, 1, 2, 3, 4, 5} := by decide
  rw [this]
  simp [Finset.fold_insert, Finset.fold_singleton, max_assoc]

/-- The softmax of six values. -/
def smx (v : Fin 6 → EReal) (c : Fin 6) : EReal :=
  Ideal.div (Ideal.exp (v c - top6 v)) (∑ c', Ideal.exp (v c' - top6 v))

/-- The place of the first largest of six values. -/
def IsFirst (v : Fin 6 → EReal) (k : Fin 6) : Prop := ∀ c, v c ≤ v k ∧ (v c = v k → k ≤ c)

theorem IsFirst.unique {v : Fin 6 → EReal} {k l : Fin 6} (h : IsFirst v k) (h' : IsFirst v l) : k = l :=
  have e : v k = v l := le_antisymm (h' k).1 (h l).1
  le_antisymm ((h l).2 e.symm) ((h' k).2 e)

open Classical in
/-- The place of the first largest of six values, as a function. -/
def pick (v : Fin 6 → EReal) : Fin 6 := if h : ∃ k, IsFirst v k then h.choose else 0

theorem pick_eq {v : Fin 6 → EReal} {k : Fin 6} (h : IsFirst v k) : pick v = k := by
  have hx : ∃ k, IsFirst v k := ⟨k, h⟩
  unfold pick
  rw [dif_pos hx]
  exact hx.choose_spec.unique h

/-- The key of opponent `o`: the seed 42 folded with its number. -/
def foldKey (o : Fin 2) : BitVec 32 × BitVec 32 := block 0#32 42#32 0#32 (BitVec.ofNat 32 o)

/-- The key of sample `s` of opponent `o`. -/
def key (o : Fin 2) (s : Fin 18) : BitVec 32 × BitVec 32 := block (foldKey o).1 (foldKey o).2 0#32 (BitVec.ofNat 32 s)

/-- The random word of state `i` and action `c` under a key. -/
def word (k : BitVec 32 × BitVec 32) (i : Fin 4096) (c : Fin 6) : BitVec 32 :=
  (block k.1 k.2 0#32 (BitVec.ofNat 32 (6 * i + c))).1 ^^^ (block k.1 k.2 0#32 (BitVec.ofNat 32 (6 * i + c))).2

/-- The Gumbel noise a random word stands for. -/
def gumbel (w : BitVec 32) : EReal :=
  -Ideal.log (-Ideal.log (max (Ideal.ofBits .f32 0x00800000#32)
    (Ideal.ofBits .f32 ((w >>> 9) ||| 0x3F800000#32) - 1 + Ideal.ofBits .f32 0x00800000#32)))

/-- The noise of sample `s` of opponent `o`. -/
def noise (o : Fin 2) (s : Fin 18) (i : Fin 4096) (c : Fin 6) : EReal := gumbel (word (key o s) i c)

/-- An opponent's logits at state `i`. -/
def logit (x : A2 4096 256) (w : A2 6 256) (b : A1 6) (i : Fin 4096) (c : Fin 6) : EReal :=
  ∑ k : Fin 256, x (ix2 i k) * w (ix2 c k) + b (ix1 c)

/-- An opponent's distribution over its actions at state `i`. -/
def dist (x : A2 4096 256) (w : A2 6 256) (b : A1 6) (i : Fin 4096) : Fin 6 → EReal := smx (logit x w b i)

/-- The action that opponent `o` takes in sample `s` at state `i`. -/
def act (o : Fin 2) (d : Fin 4096 → Fin 6 → EReal) (s : Fin 18) (i : Fin 4096) : Fin 6 :=
  pick fun c => noise o s i c + Ideal.log (d i c)

/-- The probability counted for an action: that of action 0 at the state numbered by the action. -/
def prob (d : Fin 4096 → Fin 6 → EReal) (k : Fin 6) : EReal := d ⟨k, by omega⟩ 0

/-- The agent's logits at state `i` when the opponents act `k` and `l`. -/
def agent (x : A2 4096 256) (w : A2 6 268) (b : A1 6) (i : Fin 4096) (k l : Fin 6) (j : Fin 6) : EReal :=
  (∑ t : Fin 256, x (ix2 i t) * w (ix2 j ⟨t, by omega⟩) + (w (ix2 j ⟨256 + k, by omega⟩) + w (ix2 j ⟨262 + l, by omega⟩))) + b (ix1 j)

/-- The mean of the agent's distributions under weights that are normalised first. -/
def mean (w : Fin 18 → EReal) (q : Fin 18 → EReal) : EReal := ∑ s, Ideal.div (w s) (∑ s', w s') * q s

/-- The agent's mean distribution at state `i`. -/
def out (x : A2 4096 256) (w1 : A2 6 256) (b1 : A1 6) (w2 : A2 6 256) (b2 : A1 6) (w : A2 6 268) (b : A1 6) (i : Fin 4096)
    (j : Fin 6) : EReal :=
  mean (fun s => prob (dist x w1 b1) (act 0 (dist x w1 b1) s i) * prob (dist x w2 b2) (act 1 (dist x w2 b2) s i))
    (fun s => smx (agent x w b i (act 0 (dist x w1 b1) s i) (act 1 (dist x w2 b2) s i)) j)

end Cert.Spec

end
-- ==== Proof.RefKeys.lean ====
/- The reference's keys: the seed folded with an opponent's number, and the split of that key into one key a sample. -/
module

public import proofs.«01_k».proof.Proof.RefHash
public import proofs.«01_k».proof.Proof.Spec

@[expose] public section

set_option maxRecDepth 16384

noncomputable section

namespace Cert.RefKeys

open Idealize.ShloMosaic Idealize.ShloMosaic.StableHlo Idealize.SL.Sem Cert.ReferenceIdeal Cert.Ssa Cert.Threefry Cert.RefHash
open Cert.ReferenceIdeal.Facts₀ Cert.ReferenceIdeal.Facts

/-- The buffer of the seed's key, typed. -/
abbrev r7 : TRef sig ⟨S2, .i32⟩ := .of main_v7
/-- The buffer of the opponents' numbers, typed. -/
abbrev r0 : TRef sig ⟨S2, .i32⟩ := .of main_v0
/-- The buffer of the opponents' keys, typed. -/
abbrev r8 : TRef sig ⟨S2x2, .i32⟩ := .of main_v8

/-- The two words that the keys are folded with. -/
def numV (n : IVec S2 32) : IVec S2x2 32 :=
  concatenate S2x2 1 [⟨S2x1, broadcastInDim S2x1 ![0] bcast_S2_S2x1_0 (Host.shrui n (broadcastInDim S2 ![] bcast_S_S2 (constantI S_ 32 32#32)))⟩,
    ⟨S2x1, broadcastInDim S2x1 ![0] bcast_S2_S2x1_0 (andi n (broadcastInDim S2 ![] bcast_S_S2 (constantI S_ 32 4294967295#32)))⟩] concatenates_S2x1_S2x1_S2x2_d1

/-- One word of the seed's key. -/
def wordV (k : IVec S2 32) : IVec S_ 32 × IVec S_ 32 :=
  (shapeCast S_ (extractStridedSlice S1 ![0] k slices_S2_S1_0) shapeCasts_S1_S_, shapeCast S_ (extractStridedSlice S1 ![1] k slices_S2_S1_1) shapeCasts_S1_S_)

theorem foldIn : Line (nD := nD) (τ := τ) (fn_threefry_fold_in.body (F := Ideal) r7 r0 main_call0)
    (rk main_call0.c.ref) (rk main_call0.v14.ref + 1) fun W =>
    (∀ j : S2x1.Idx, ((rd W main_call0_call0.v171 j : BitVec 32), (rd W main_call0_call0.v175 j : BitVec 32))
      = block (broadcastInDim S2x1 ![] bcast_S_S2x1 (wordV (rd W r7)).1 j) (broadcastInDim S2x1 ![] bcast_S_S2x1 (wordV (rd W r7)).2 j)
          (extractStridedSlice S2x1 ![0, 0] (numV (rd W r0)) slices_S2x2_S2x1_0_0 j) (extractStridedSlice S2x1 ![0, 1] (numV (rd W r0)) slices_S2x2_S2x1_0_1 j))
    ∧ rd W main_call0.v14 = concatenate S2x2 1 [⟨S2x1, rd W main_call0_call0.v171⟩, ⟨S2x1, rd W main_call0_call0.v175⟩] concatenates_S2x1_S2x1_S2x2_d1 := by
  apply Line.mono
  · unfold fn_threefry_fold_in.body
    repeat' first
      | with_reducible exact foldHash
      | with_reducible apply Line.last
      | with_reducible apply Line.seq
      | with_reducible exact Line.tnullary _
      | with_reducible apply Line.tunary
      | with_reducible apply Line.tbinary
      | with_reducible apply Line.treshape
      | exact rfl
  · intro W h
    obtain ⟨e1, e2, e3, e4, e5, e6, e7, e8, e9, e10, e11, e12, e13, e14, e15, e16, e17⟩ := h
    refine ⟨fun j => (e16 j).trans ?_, e17⟩
    rw [e14, e15, e11, e13, e10, e12, e9, e4, e8, e3, e7, e2, e6, e1, e5]
    rfl

/-- The samples' numbers as 64-bit words. -/
def samplesV : IVec S18 64 := muli (broadcastInDim S18 ![] bcast_S_S18 (constantI S_ 64 1#64)) (iotaInDim S18 64 0)

theorem splitKeys : Line (nD := nD) (τ := τ) (fn_threefry_split.body (F := Ideal) r8 main_call1)
    (rk main_call1.v0.ref) (rk main_call1.v18.ref + 1) fun W =>
    (∀ j : S2x18.Idx, ((rd W main_call1_call0.v174 j : BitVec 32), (rd W main_call1_call0.v178 j : BitVec 32))
      = block (broadcastInDim S2x18 ![0, 1] bcast_S2x1_S2x18_0_1 (broadcastInDim S2x1 ![0] bcast_S2_S2x1_0
            (shapeCast S2 (extractStridedSlice S2x1 ![0, 0] (rd W r8) slices_S2x2_S2x1_0_0) shapeCasts_S2x1_S2)) j)
          (broadcastInDim S2x18 ![0, 1] bcast_S2x1_S2x18_0_1 (broadcastInDim S2x1 ![0] bcast_S2_S2x1_0
            (shapeCast S2 (extractStridedSlice S2x1 ![0, 1] (rd W r8) slices_S2x2_S2x1_0_1) shapeCasts_S2x1_S2)) j)
          (broadcastInDim S2x18 ![0, 1] bcast_S1x18_S2x18_0_1 (broadcastInDim S1x18 ![1] bcast_S18_S1x18_1
            (trunci 32 (Host.shrui samplesV (broadcastInDim S18 ![] bcast_S_S18 (constantI S_ 64 32#64))) natLt_32_64)) j)
          (broadcastInDim S2x18 ![0, 1] bcast_S1x18_S2x18_0_1 (broadcastInDim S1x18 ![1] bcast_S18_S1x18_1 (trunci 32 samplesV natLt_32_64)) j))
    ∧ rd W main_call1.v18 = concatenate S2x18x2 2 [⟨S2x18x1, broadcastInDim S2x18x1 ![0, 1] bcast_S2x18_S2x18x1_0_1 (rd W main_call1_call0.v174)⟩,
        ⟨S2x18x1, broadcastInDim S2x18x1 ![0, 1] bcast_S2x18_S2x18x1_0_1 (rd W main_call1_call0.v178)⟩] concatenates_S2x18x1_S2x18x1_S2x18x2_d2 := by
  apply Line.mono
  · unfold fn_threefry_split.body
    repeat' first
      | with_reducible exact splitHash
      | with_reducible apply Line.last
      | with_reducible apply Line.seq
      | with_reducible exact Line.tnullary _
      | with_reducible apply Line.tunary
      | with_reducible apply Line.tbinary
      | with_reducible apply Line.treshape
      | exact rfl
  · intro W h
    obtain ⟨e1, e2, e3, e4, e5, e6, e7, e8, e9, e10, e11, e12, e13, e14, e15, e16, e17, e18, e19, e20, e21⟩ := h
    have e8' : rd W main_call1.v6 = samplesV := by rw [e8, e7, e5, e6]; rfl
    refine ⟨fun j => (e18 j).trans ?_, by rw [e21, e19, e20]⟩
    rw [e16, e17, e14, e15, e13, e12, e11, e10, e9, e8', e2, e4, e1, e3]

end Cert.RefKeys

end
-- ==== Proof.RefJoint.lean ====
/- The reference's stretches after the sampling: the noise from random words, the agent's layer on every sampled pair of
   actions, and the weighted mean. -/
module

public import proofs.«01_k».proof.Proof.Gen.ReferenceIdeal
public import proofs.«01_k».proof.Proof.Spec

@[expose] public section

set_option maxRecDepth 16384

noncomputable section

namespace Cert.RefJoint

open Idealize.ShloMosaic Cert.ReferenceIdeal Cert.Spec
open Cert.ReferenceIdeal.Facts₀ Cert.ReferenceIdeal.Facts

/-- Arrays of extended reals. -/
abbrev V (s : Shape) : Type := FVec Ideal s .f32

/-! ## The noise -/

/-- The noise from the hash's two words. -/
def noiseV (a b : IVec S2x18x4096x6 32) : V S2x18x4096x6 :=
  Host.negf (Host.log (Host.negf (Host.log (maximumf (broadcastInDim S2x18x4096x6 ![] bcast_S_S2x18x4096x6 (constant S_ .f32 0x00800000#32))
    (addf (subf (bitcastToFloat .f32 (ori (Host.shrui (xori a b) (broadcastInDim S2x18x4096x6 ![] bcast_S_S2x18x4096x6 (constantI S_ 32 9#32)))
        (broadcastInDim S2x18x4096x6 ![] bcast_S_S2x18x4096x6 (constantI S_ 32 1065353216#32))))
      (broadcastInDim S2x18x4096x6 ![] bcast_S_S2x18x4096x6 (constant S_ .f32 0x3F800000#32)))
      (broadcastInDim S2x18x4096x6 ![] bcast_S_S2x18x4096x6 (constant S_ .f32 0x00800000#32)))))))

theorem noiseV_apply (a b : IVec S2x18x4096x6 32) (j : S2x18x4096x6.Idx) : noiseV a b j = gumbel (a j ^^^ b j) := by
  idx_vars j
  pointwise [noiseV]
  have e : ∀ v : BitVec 32, IntOp.shrui ArithUnit.host v 9#32 = v >>> 9 := fun v => rfl
  rw [e]
  rfl

/-! ## The agent -/

/-- The places of the pair of actions among twelve, one-hot. -/
def hotV (a b : IVec S4096x18 32) : V S4096x18x12 :=
  shapeCast S4096x18x12 (uitofp (F := Ideal) .f32 (cmpi .eq
    (broadcastInDim S4096x18x2x6 ![0, 1, 2, 3] bcast_S4096x18x2x1_S4096x18x2x6_0_1_2_3 (broadcastInDim S4096x18x2x1 ![0, 1, 2] bcast_S4096x18x2_S4096x18x2x1_0_1_2
      (concatenate S4096x18x2 2 [⟨S4096x18x1, broadcastInDim S4096x18x1 ![0, 1] bcast_S4096x18_S4096x18x1_0_1 a⟩,
        ⟨S4096x18x1, broadcastInDim S4096x18x1 ![0, 1] bcast_S4096x18_S4096x18x1_0_1 b⟩] concatenates_S4096x18x1_S4096x18x1_S4096x18x2_d2)))
    (broadcastInDim S4096x18x2x6 ![0, 1, 2, 3] bcast_S1x1x1x6_S4096x18x2x6_0_1_2_3 (iotaInDim S1x1x1x6 32 3))))
    shapeCasts_S4096x18x2x6_S4096x18x12

/-- The agent's logits on every sample. -/
def agentV (x : V S4096x256) (h : V S4096x18x12) (w : V S6x268) (b : V S6) : V S4096x18x6 :=
  addf (Host.dotGeneral dot_S4096x18x268_S268x6_S4096x18x6_2_0_01_1_n_n none
      (concatenate S4096x18x268 2 [⟨S4096x18x256, broadcastInDim S4096x18x256 ![0, 1, 2] bcast_S4096x1x256_S4096x18x256_0_1_2
        (broadcastInDim S4096x1x256 ![0, 2] bcast_S4096x256_S4096x1x256_0_2 x)⟩, ⟨S4096x18x12, h⟩] concatenates_S4096x18x256_S4096x18x12_S4096x18x268_d2)
      (transpose S268x6 [1, 0] w transposes_S6x268_S268x6_1_0))
    (broadcastInDim S4096x18x6 ![0, 1, 2] bcast_S1x1x6_S4096x18x6_0_1_2 (broadcastInDim S1x1x6 ![2] bcast_S6_S1x1x6_2 b))

/-- The exponentials of the logits, lessened by the largest of each sample. -/
def expV (l : V S4096x18x6) : V S4096x18x6 :=
  Host.exp (subf l (broadcastInDim S4096x18x6 ![0, 1, 2] bcast_S4096x18x1_S4096x18x6_0_1_2 (broadcastInDim S4096x18x1 ![0, 1] bcast_S4096x18_S4096x18x1_0_1
    (maximumf (broadcastInDim S4096x18 ![] bcast_S_S4096x18 (constant S_ .f32 0xFF800000#32))
      (Host.reduce FloatOps.maximumf l (constant S_ .f32 0xFF800000#32) reducesTo_S4096x18x6_S4096x18_d2 h_S_)))))

/-- The agent's distribution on every sample. -/
def smxV (l : V S4096x18x6) : V S4096x18x6 :=
  Host.divf (expV l) (broadcastInDim S4096x18x6 ![0, 1, 2] bcast_S4096x18x1_S4096x18x6_0_1_2 (broadcastInDim S4096x18x1 ![0, 1] bcast_S4096x18_S4096x18x1_0_1
    (Host.reduceAdd (expV l) (constant S_ .f32 0x00000000#32) reducesTo_S4096x18x6_S4096x18_d2 h_S_)))

/-- The mean of the distributions, under the normalised product of two arrays of weights. -/
def meanV (p q : V S4096x18) (d : V S4096x18x6) : V S4096x6 :=
  shapeCast S4096x6 (Host.dotGeneral dot_S4096x1x18_S4096x18x6_S4096x1x6_2_1_1_2_0_0 none
    (shapeCast S4096x1x18 (Host.divf (mulf p q) (broadcastInDim S4096x18 ![0, 1] bcast_S4096x1_S4096x18_0_1 (broadcastInDim S4096x1 ![0] bcast_S4096_S4096x1_0
      (Host.reduceAdd (mulf p q) (constant S_ .f32 0x00000000#32) reducesTo_S4096x18_S4096_d1 h_S_)))) shapeCasts_S4096x18_S4096x1x18) d)
    shapeCasts_S4096x1x6_S4096x6

theorem smxV_apply (l : V S4096x18x6) (i : Fin 4096) (s : Fin 18) (j : Fin 6) :
    smxV l (ix3 i s j) = smx (fun c => l (ix3 i s c)) j := by
  pointwise [smxV, expV]
  rw [show Ideal.ofBits .f32 0xFF800000#32 = negInf from rfl]
  simp only [max_negInf]
  rfl

theorem meanV_apply (p q : V S4096x18) (d : V S4096x18x6) (i : Fin 4096) (j : Fin 6) :
    meanV p q d (ix2 i j) = mean (fun s => p (ix2 i s) * q (ix2 i s)) (fun s => d (ix3 i s j)) := by
  pointwise [meanV]
  rfl

theorem hotV_apply (a b : IVec S4096x18 32) (i : Fin 4096) (s : Fin 18) (k l : Fin 6)
    (ha : a (ix2 i s) = BitVec.ofNat 32 k) (hb : b (ix2 i s) = BitVec.ofNat 32 l) (t : Fin 12) :
    hotV a b (ix3 i s t) = if t.val = k ∨ t.val = 6 + l then (1 : EReal) else 0 := by
  pointwise [hotV]
  have e : IntOp.cmpi CmpIPredicate.eq (if h : t.val / 6 < 1 then a (ix2 i s) else b (ix2 i s)) (BitVec.ofNat 32 (t.val % 6))
      = if t.val = k ∨ t.val = 6 + l then 1#1 else 0#1 := by
    rw [ha, hb]
    clear ha hb
    revert t k l
    decide
  rw [e]
  split
  · show (((1#1 : BitVec 1).toNat : ℝ) : EReal) = 1
    norm_num
  · show (((0#1 : BitVec 1).toNat : ℝ) : EReal) = 0
    norm_num

/-- A sum against the one-hot pair is the sum of two terms. -/
theorem sum_hot (f : Fin 12 → EReal) (k l : Fin 6) :
    ∑ t : Fin 12, (if t.val = k ∨ t.val = 6 + l then (1 : EReal) else 0) * f t = f ⟨k, by omega⟩ + f ⟨6 + l, by omega⟩ := by
  have e : ∀ t : Fin 12, (if t.val = k ∨ t.val = 6 + l then (1 : EReal) else 0) * f t
      = (if t = ⟨k, by omega⟩ then f t else 0) + (if t = ⟨6 + l, by omega⟩ then f t else 0) := fun t => by
    by_cases h1 : t.val = k
    · have h2 : ¬ t.val = 6 + l := by omega
      rw [if_pos (.inl h1), if_pos (Fin.ext h1), if_neg (fun h => h2 (congrArg Fin.val h)), one_mul, add_zero]
    · by_cases h2 : t.val = 6 + l
      · rw [if_pos (.inr h2), if_neg (fun h => h1 (congrArg Fin.val h)), if_pos (Fin.ext h2), one_mul, zero_add]
      · rw [if_neg (by tauto), if_neg (fun h => h1 (congrArg Fin.val h)), if_neg (fun h => h2 (congrArg Fin.val h)), zero_mul, zero_add]
  rw [Finset.sum_congr rfl fun t _ => e t, Finset.sum_add_distrib, Finset.sum_ite_eq' Finset.univ, Finset.sum_ite_eq' Finset.univ,
    if_pos (Finset.mem_univ _), if_pos (Finset.mem_univ _)]

theorem agentV_apply (x : V S4096x256) (h : V S4096x18x12) (w : V S6x268) (b : V S6) (i : Fin 4096) (s : Fin 18) (j : Fin 6) (k l : Fin 6)
    (hh : ∀ t : Fin 12, h (ix3 i s t) = if t.val = k ∨ t.val = 6 + l then (1 : EReal) else 0) :
    agentV x h w b (ix3 i s j) = agent x w b i k l j := by
  pointwise [agentV]
  rw [Finset.sum_congr rfl fun t _ => congrArg (· * _) (hh t), sum_hot (fun t => w (ix2 j ⟨256 + t, _⟩))]
  unfold agent
  congr 5
  apply Fin.ext
  show 256 + (6 + l.val) = 262 + l.val
  omega

end Cert.RefJoint

end
-- ==== Proof.RefNoise.lean ====
/- The first part of the reference: what it leaves as the Gumbel noise of every opponent, sample, state and action. -/
module

public import proofs.«01_k».proof.Proof.RefKeys
public import proofs.«01_k».proof.Proof.RefJoint

@[expose] public section

set_option maxRecDepth 16384

noncomputable section

namespace Cert.RefNoise

open Idealize.ShloMosaic Idealize.ShloMosaic.StableHlo Idealize.SL.Sem Cert.ReferenceIdeal Cert.Ssa Cert.Threefry Cert.RefHash
  Cert.RefKeys Cert.RefJoint Cert.Spec
open Cert.ReferenceIdeal.Facts₀ Cert.ReferenceIdeal.Facts

/-- The seed's key. -/
def seedV : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The states' and actions' numbers in one, as 64-bit words. -/
def placeV : IVec S4096x6 64 :=
  addi (muli (broadcastInDim S4096x6 ![] bcast_S_S4096x6 (constantI S_ 64 6#64)) (iotaInDim S4096x6 64 0))
    (muli (broadcastInDim S4096x6 ![] bcast_S_S4096x6 (constantI S_ 64 1#64)) (iotaInDim S4096x6 64 1))

/-- The words that the keys are hashed with: the high halves and the low halves of the numbers. -/
def hiV : IVec S1x1x4096x6 32 :=
  broadcastInDim S1x1x4096x6 ![1, 2, 3] bcast_S1x4096x6_S1x1x4096x6_1_2_3 (broadcastInDim S1x4096x6 ![1, 2] bcast_S4096x6_S1x4096x6_1_2
    (trunci 32 (Host.shrui placeV (broadcastInDim S4096x6 ![] bcast_S_S4096x6 (constantI S_ 64 32#64))) natLt_32_64))
/-- The low halves of the numbers. -/
def loV : IVec S1x1x4096x6 32 :=
  broadcastInDim S1x1x4096x6 ![1, 2, 3] bcast_S1x4096x6_S1x1x4096x6_1_2_3 (broadcastInDim S1x4096x6 ![1, 2] bcast_S4096x6_S1x4096x6_1_2
    (trunci 32 placeV natLt_32_64))

/-- One word of every sample's key. -/
def key0V (k : IVec S2x18x2 32) : IVec S2x18x1x1 32 :=
  broadcastInDim S2x18x1x1 ![0, 1] bcast_S2x18_S2x18x1x1_0_1 (shapeCast S2x18 (extractStridedSlice S2x18x1 ![0, 0, 0] k slices_S2x18x2_S2x18x1_0_0_0) shapeCasts_S2x18x1_S2x18)
/-- The other word of every sample's key. -/
def key1V (k : IVec S2x18x2 32) : IVec S2x18x1x1 32 :=
  broadcastInDim S2x18x1x1 ![0, 1] bcast_S2x18_S2x18x1x1_0_1 (shapeCast S2x18 (extractStridedSlice S2x18x1 ![0, 0, 1] k slices_S2x18x2_S2x18x1_0_0_1) shapeCasts_S2x18x1_S2x18)

/-- What the first call leaves. -/
def Fold (W : Valuation τ sig (Elt Ideal)) : Prop :=
    (∀ j : S2x1.Idx, ((rd W main_call0_call0.v171 j : BitVec 32), (rd W main_call0_call0.v175 j : BitVec 32))
      = block (broadcastInDim S2x1 ![] bcast_S_S2x1 (wordV seedV).1 j) (broadcastInDim S2x1 ![] bcast_S_S2x1 (wordV seedV).2 j)
          (extractStridedSlice S2x1 ![0, 0] (numV (iotaInDim S2 32 0)) slices_S2x2_S2x1_0_0 j)
          (extractStridedSlice S2x1 ![0, 1] (numV (iotaInDim S2 32 0)) slices_S2x2_S2x1_0_1 j))
    ∧ rd W main_call0.v14 = concatenate S2x2 1 [⟨S2x1, rd W main_call0_call0.v171⟩, ⟨S2x1, rd W main_call0_call0.v175⟩] concatenates_S2x1_S2x1_S2x2_d1

/-- What the second call leaves. -/
def Split (W : Valuation τ sig (Elt Ideal)) : Prop :=
    (∀ j : S2x18.Idx, ((rd W main_call1_call0.v174 j : BitVec 32), (rd W main_call1_call0.v178 j : BitVec 32))
      = block (broadcastInDim S2x18 ![0, 1] bcast_S2x1_S2x18_0_1 (broadcastInDim S2x1 ![0] bcast_S2_S2x1_0
            (shapeCast S2 (extractStridedSlice S2x1 ![0, 0] (rd W main_call0.v14) slices_S2x2_S2x1_0_0) shapeCasts_S2x1_S2)) j)
          (broadcastInDim S2x18 ![0, 1] bcast_S2x1_S2x18_0_1 (broadcastInDim S2x1 ![0] bcast_S2_S2x1_0
            (shapeCast S2 (extractStridedSlice S2x1 ![0, 1] (rd W main_call0.v14) slices_S2x2_S2x1_0_1) shapeCasts_S2x1_S2)) j)
          (broadcastInDim S2x18 ![0, 1] bcast_S1x18_S2x18_0_1 (broadcastInDim S1x18 ![1] bcast_S18_S1x18_1
            (trunci 32 (Host.shrui samplesV (broadcastInDim S18 ![] bcast_S_S18 (constantI S_ 64 32#64))) natLt_32_64)) j)
          (broadcastInDim S2x18 ![0, 1] bcast_S1x18_S2x18_0_1 (broadcastInDim S1x18 ![1] bcast_S18_S1x18_1 (trunci 32 samplesV natLt_32_64)) j))
    ∧ rd W main_call1.v18 = concatenate S2x18x2 2 [⟨S2x18x1, broadcastInDim S2x18x1 ![0, 1] bcast_S2x18_S2x18x1_0_1 (rd W main_call1_call0.v174)⟩,
        ⟨S2x18x1, broadcastInDim S2x18x1 ![0, 1] bcast_S2x18_S2x18x1_0_1 (rd W main_call1_call0.v178)⟩] concatenates_S2x18x1_S2x18x1_S2x18x2_d2

/-- What the third call leaves. -/
def Words (W : Valuation τ sig (Elt Ideal)) : Prop :=
  ∀ j : S2x18x4096x6.Idx, ((rd W main_call2.v174 j : BitVec 32), (rd W main_call2.v178 j : BitVec 32))
    = block (broadcastInDim S2x18x4096x6 ![0, 1, 2, 3] bcast_S2x18x1x1_S2x18x4096x6_0_1_2_3 (key0V (rd W main_call1.v18)) j)
        (broadcastInDim S2x18x4096x6 ![0, 1, 2, 3] bcast_S2x18x1x1_S2x18x4096x6_0_1_2_3 (key1V (rd W main_call1.v18)) j)
        (broadcastInDim S2x18x4096x6 ![0, 1, 2, 3] bcast_S1x1x4096x6_S2x18x4096x6_0_1_2_3 hiV j)
        (broadcastInDim S2x18x4096x6 ![0, 1, 2, 3] bcast_S1x1x4096x6_S2x18x4096x6_0_1_2_3 loV j)

theorem block_congr {a a' b b' c c' d d' : BitVec 32} (h1 : a = a') (h2 : b = b') (h3 : c = c') (h4 : d = d') :
    block a b c d = block a' b' c' d' := by rw [h1, h2, h3, h4]

theorem foldCat (p q : IVec S2x1 32) (o : Fin 2) :
    ((concatenate S2x2 1 [⟨S2x1, p⟩, ⟨S2x1, q⟩] concatenates_S2x1_S2x1_S2x2_d1 : IVec S2x2 32) (ix2 o 0),
      (concatenate S2x2 1 [⟨S2x1, p⟩, ⟨S2x1, q⟩] concatenates_S2x1_S2x1_S2x2_d1 : IVec S2x2 32) (ix2 o 1)) = (p (ix2 o 0), q (ix2 o 0)) :=
  Prod.ext (by pointwise []) (by pointwise [])

theorem fold_at {W : Valuation τ sig (Elt Ideal)} (h : Fold W) (o : Fin 2) :
    ((rd W main_call0.v14 (ix2 o 0) : BitVec 32), (rd W main_call0.v14 (ix2 o 1) : BitVec 32)) = foldKey o := by
  obtain ⟨h1, h2⟩ := h
  rw [h2]
  refine (foldCat _ _ o).trans ((h1 (ix2 o 0)).trans ?_)
  clear h1 h2
  unfold foldKey
  refine block_congr ?_ ?_ ?_ ?_ <;> revert o <;> decide

theorem splitCat (p q : IVec S2x18 32) (o : Fin 2) (s : Fin 18) :
    ((concatenate S2x18x2 2 [⟨S2x18x1, broadcastInDim S2x18x1 ![0, 1] bcast_S2x18_S2x18x1_0_1 p⟩,
        ⟨S2x18x1, broadcastInDim S2x18x1 ![0, 1] bcast_S2x18_S2x18x1_0_1 q⟩] concatenates_S2x18x1_S2x18x1_S2x18x2_d2 : IVec S2x18x2 32) (ix3 o s 0),
      (concatenate S2x18x2 2 [⟨S2x18x1, broadcastInDim S2x18x1 ![0, 1] bcast_S2x18_S2x18x1_0_1 p⟩,
        ⟨S2x18x1, broadcastInDim S2x18x1 ![0, 1] bcast_S2x18_S2x18x1_0_1 q⟩] concatenates_S2x18x1_S2x18x1_S2x18x2_d2 : IVec S2x18x2 32) (ix3 o s 1))
      = (p (ix2 o s), q (ix2 o s)) :=
  Prod.ext (by pointwise []) (by pointwise [])

theorem splitArg (p : IVec S2x2 32) (o : Fin 2) (s : Fin 18) :
    broadcastInDim S2x18 ![0, 1] bcast_S2x1_S2x18_0_1 (broadcastInDim S2x1 ![0] bcast_S2_S2x1_0
        (shapeCast S2 (extractStridedSlice S2x1 ![0, 0] p slices_S2x2_S2x1_0_0) shapeCasts_S2x1_S2)) (ix2 o s) = p (ix2 o 0)
    ∧ broadcastInDim S2x18 ![0, 1] bcast_S2x1_S2x18_0_1 (broadcastInDim S2x1 ![0] bcast_S2_S2x1_0
        (shapeCast S2 (extractStridedSlice S2x1 ![0, 1] p slices_S2x2_S2x1_0_1) shapeCasts_S2x1_S2)) (ix2 o s) = p (ix2 o 1) :=
  ⟨by pointwise [], by pointwise []⟩

theorem splitNum (o : Fin 2) (s : Fin 18) :
    broadcastInDim S2x18 ![0, 1] bcast_S1x18_S2x18_0_1 (broadcastInDim S1x18 ![1] bcast_S18_S1x18_1
        (trunci 32 (Host.shrui samplesV (broadcastInDim S18 ![] bcast_S_S18 (constantI S_ 64 32#64))) natLt_32_64)) (ix2 o s) = 0#32
    ∧ broadcastInDim S2x18 ![0, 1] bcast_S1x18_S2x18_0_1 (broadcastInDim S1x18 ![1] bcast_S18_S1x18_1 (trunci 32 samplesV natLt_32_64)) (ix2 o s)
      = BitVec.ofNat 32 s := by
  constructor
  · pointwise [samplesV]
    revert s; decide
  · pointwise [samplesV]
    revert s; decide

theorem split_at {W : Valuation τ sig (Elt Ideal)} (hf : Fold W) (h : Split W) (o : Fin 2) (s : Fin 18) :
    ((rd W main_call1.v18 (ix3 o s 0) : BitVec 32), (rd W main_call1.v18 (ix3 o s 1) : BitVec 32)) = key o s := by
  obtain ⟨h1, h2⟩ := h
  rw [h2]
  refine (splitCat _ _ o s).trans ((h1 (ix2 o s)).trans ?_)
  have hk := fold_at hf o
  unfold key
  rw [← hk]
  exact block_congr (splitArg _ o s).1 (splitArg _ o s).2 (splitNum o s).1 (splitNum o s).2

theorem wordArg (k : IVec S2x18x2 32) (o : Fin 2) (s : Fin 18) (i : Fin 4096) (c : Fin 6) :
    broadcastInDim S2x18x4096x6 ![0, 1, 2, 3] bcast_S2x18x1x1_S2x18x4096x6_0_1_2_3 (key0V k) (ix4 o s i c) = k (ix3 o s 0)
    ∧ broadcastInDim S2x18x4096x6 ![0, 1, 2, 3] bcast_S2x18x1x1_S2x18x4096x6_0_1_2_3 (key1V k) (ix4 o s i c) = k (ix3 o s 1) :=
  ⟨by pointwise [key0V], by pointwise [key1V]⟩

theorem wordNum (o : Fin 2) (s : Fin 18) (i : Fin 4096) (c : Fin 6) :
    broadcastInDim S2x18x4096x6 ![0, 1, 2, 3] bcast_S1x1x4096x6_S2x18x4096x6_0_1_2_3 hiV (ix4 o s i c) = 0#32
    ∧ broadcastInDim S2x18x4096x6 ![0, 1, 2, 3] bcast_S1x1x4096x6_S2x18x4096x6_0_1_2_3 loV (ix4 o s i c) = BitVec.ofNat 32 (6 * i + c) := by
  have hi := i.isLt
  have hc := c.isLt
  have e : IntOp.addi (IntOp.muli 6#64 (BitVec.ofNat 64 i)) (IntOp.muli 1#64 (BitVec.ofNat 64 c)) = BitVec.ofNat 64 (6 * i + c) := by
    apply BitVec.eq_of_toNat_eq
    simp only [IntOp.addi, IntOp.muli, BitVec.toNat_add, BitVec.toNat_mul, BitVec.toNat_ofNat]
    omega
  constructor
  · pointwise [hiV, placeV]
    rw [e]
    show BitVec.setWidth 32 (BitVec.ofNat 64 (6 * i + c) >>> 32) = 0#32
    apply BitVec.eq_of_toNat_eq
    simp only [BitVec.toNat_setWidth, BitVec.toNat_ushiftRight, BitVec.toNat_ofNat, Nat.shiftRight_eq_div_pow]
    rw [Nat.mod_eq_of_lt (by omega : 6 * i.val + c.val < 2 ^ 64), Nat.div_eq_of_lt (by omega : 6 * i.val + c.val < 2 ^ 32)]
  · pointwise [loV, placeV]
    rw [e]
    apply BitVec.eq_of_toNat_eq
    simp only [BitVec.toNat_setWidth, BitVec.toNat_ofNat]
    omega

theorem words_at {W : Valuation τ sig (Elt Ideal)} (hf : Fold W) (hs : Split W) (h : Words W) (o : Fin 2) (s : Fin 18) (i : Fin 4096) (c : Fin 6) :
    IntOp.xori (rd W main_call2.v174 (ix4 o s i c) : BitVec 32) (rd W main_call2.v178 (ix4 o s i c) : BitVec 32) = word (key o s) i c := by
  have hk := split_at hf hs o s
  have e := (h (ix4 o s i c)).trans (block_congr (wordArg _ o s i c).1 (wordArg _ o s i c).2 (wordNum o s i c).1 (wordNum o s i c).2)
  unfold word
  rw [← hk]
  exact congrArg (fun p : BitVec 32 × BitVec 32 => p.1 ^^^ p.2) e

/-- The first part of the reference leaves the noise, and the first opponent's weights transposed. -/
theorem part0 (d : Dev nD) : Line (nD := nD) (τ := τ) (main_part0 (F := Ideal) d) (rk main_v0) (rk main_v48 + 1) fun W =>
    (∀ (o : Fin 2) (s : Fin 18) (i : Fin 4096) (c : Fin 6), (at_ W main_v47 : V S2x18x4096x6) (ix4 o s i c) = noise o s i c)
    ∧ (at_ W main_v48 : V S256x6) = transpose S256x6 [1, 0] (at_ W main_arg1 : V S6x256) transposes_S6x256_S256x6_1_0 := by
  apply Line.mono
  · unfold main_part0
    repeat' first
      | with_reducible exact foldIn
      | with_reducible exact splitKeys
      | with_reducible exact bitsHash
      | with_reducible apply Line.last
      | with_reducible apply Line.seq
      | with_reducible exact Line.nullary _ _
      | with_reducible apply Line.unary
      | with_reducible apply Line.binary
      | with_reducible apply Line.reshape
      | exact rfl
  · intro W h
    obtain ⟨e1, e2, e3, e4, e5, e6, e7, e8, e9, e10, e11, f, g, e12, e13, e14, e15, e16, e17, e18, e19, e20, e21, e22, e23, e24, e25, e26,
      e27, e28, e29, e30, e31, e32, e33, e34, e35, w, e36, e37, e38, e39, e40, e41, e42, e43, e44, e45, e46, e47, e48, e49, e50, e51, e52,
      e53, e54, e55, e56, e57⟩ := h
    have s7 : rd W r7 = seedV := by
      show at_ W main_v7 = _
      rw [e11, e6, e10, e5, e9, e4, e8, e2, e3, e7]; rfl
    have s0 : rd W r0 = iotaInDim S2 32 0 := e1
    rw [s7, s0] at f
    have p20 : at_ W main_v20 = placeV := by rw [e24, e20, e19, e18, e16, e23, e22, e21, e17]; rfl
    have s27 : rd W r27 = key0V (rd W main_call1.v18) := by
      show at_ W main_v27 = _
      rw [e32, e13, e12]; rfl
    have s28 : rd W r28 = key1V (rd W main_call1.v18) := by
      show at_ W main_v28 = _
      rw [e33, e15, e14]; rfl
    have s29 : rd W r29 = hiV := by
      show at_ W main_v29 = _
      rw [e34, e30, e29, e27, p20, e26, e25]; rfl
    have s30 : rd W r30 = loV := by
      show at_ W main_v30 = _
      rw [e35, e31, e28, p20]; rfl
    rw [s27, s28, s29, s30] at w
    refine ⟨fun o s i c => ?_, e57⟩
    have n : (at_ W main_v47 : V S2x18x4096x6) = noiseV (rd W main_call2.v174) (rd W main_call2.v178) := by
      rw [e56, e55, e54, e53, e52, e51, e50, e49, e48, e47, e46, e45, e44, e43, e42, e41, e40, e39, e38, e37, e36]; rfl
    rw [n, noiseV_apply]
    exact congrArg gumbel (words_at f g w o s i c)

end Cert.RefNoise

end
-- ==== Proof.RefOps.lean ====
/- The reference's stretches of operations as functions of arrays, read at an index. -/
module

public import proofs.«01_k».proof.Proof.Gen.ReferenceIdeal
public import proofs.«01_k».proof.Proof.Spec
public import Idealize.ShloMosaic.Lib.IdealHost

@[expose] public section

set_option maxRecDepth 16384

noncomputable section

namespace Cert.RefOps

open Idealize.ShloMosaic Cert.ReferenceIdeal Cert.Spec
open Cert.ReferenceIdeal.Facts₀ Cert.ReferenceIdeal.Facts

/-- Arrays of extended reals. -/
abbrev V (s : Shape) : Type := FVec Ideal s .f32

/-! ## An opponent's distribution -/

/-- The dense layer of an opponent. -/
def logitV (x : V S4096x256) (w : V S6x256) (b : V S6) : V S4096x6 :=
  addf (Host.dotGeneral dot_S4096x256_S256x6_S4096x6_1_0_0_1_n_n none x (transpose S256x6 [1, 0] w transposes_S6x256_S256x6_1_0))
    (broadcastInDim S4096x6 ![0, 1] bcast_S1x6_S4096x6_0_1 (broadcastInDim S1x6 ![1] bcast_S6_S1x6_1 b))

/-- The exponentials of the values, lessened by the row's largest. -/
def expV (l : V S4096x6) : V S4096x6 :=
  Host.exp (subf l (broadcastInDim S4096x6 ![0, 1] bcast_S4096x1_S4096x6_0_1 (broadcastInDim S4096x1 ![0] bcast_S4096_S4096x1_0
    (maximumf (broadcastInDim S4096 ![] bcast_S_S4096 (constant S_ .f32 0xFF800000#32))
      (Host.reduce FloatOps.maximumf l (constant S_ .f32 0xFF800000#32) reducesTo_S4096x6_S4096_d1 h_S_)))))

/-- The distribution of an opponent. -/
def distV (x : V S4096x256) (w : V S6x256) (b : V S6) : V S4096x6 :=
  Host.divf (expV (logitV x w b)) (broadcastInDim S4096x6 ![0, 1] bcast_S4096x1_S4096x6_0_1 (broadcastInDim S4096x1 ![0] bcast_S4096_S4096x1_0
    (Host.reduceAdd (expV (logitV x w b)) (constant S_ .f32 0x00000000#32) reducesTo_S4096x6_S4096_d1 h_S_)))

theorem distV_apply (x : V S4096x256) (w : V S6x256) (b : V S6) (i : Fin 4096) (c : Fin 6) :
    distV x w b (ix2 i c) = dist x w b i c := by
  pointwise [distV, expV, logitV]
  rw [show Ideal.ofBits .f32 0xFF800000#32 = negInf from rfl]
  simp only [max_negInf]
  rfl

/-! ## The sampled actions -/

/-- One of two (value, place) pairs is no worse than the other: larger, or equal and no later. -/
def Ge (p q : Ideal .f32 × BitVec 32) : Prop := (q.1 : EReal) < p.1 ∨ ((q.1 : EReal) = p.1 ∧ p.2.toInt ≤ q.2.toInt)

theorem Ge.trans {p q r : Ideal .f32 × BitVec 32} (h : Ge p q) (h' : Ge q r) : Ge p r := by
  rcases h with h | ⟨h, k⟩ <;> rcases h' with h' | ⟨h', k'⟩
  · exact .inl (h'.trans h)
  · exact .inl (h' ▸ h)
  · exact .inl (h ▸ h')
  · exact .inr ⟨h'.trans h, k.trans k'⟩

theorem Ge.refl (p : Ideal .f32 × BitVec 32) : Ge p p := .inr ⟨rfl, le_rfl⟩

/-- The reducer of the arg-max keeps one of its two pairs, which is no worse than either. -/
theorem reducer_spec (a b : Ideal .f32 × BitVec 32) :
    (reducer_argmax_f32_i32 a b = a ∨ reducer_argmax_f32_i32 a b = b)
      ∧ Ge (reducer_argmax_f32_i32 a b) a ∧ Ge (reducer_argmax_f32_i32 a b) b := by
  obtain ⟨av, ai⟩ := a
  obtain ⟨bv, bi⟩ := b
  have e : reducer_argmax_f32_i32 (av, ai) (bv, bi)
      = if (bv : EReal) < av then (av, ai) else if (av : EReal) = bv ∧ ai.toInt < bi.toInt then (bv, ai) else (bv, bi) := by
    unfold reducer_argmax_f32_i32
    simp only [Ideal.cmpf_def, Ideal.cmp, IntOp.cmpi]
    by_cases h1 : (bv : EReal) < av
    · by_cases h2 : BitVec.ofBool (decide ((av : EReal) = bv)) &&& BitVec.ofBool (ai.slt bi) = 1#1 <;>
        simp [h1, Scalar.select, IntOp.ori, IntOp.andi, (h1.ne' : (av : EReal) ≠ bv)]
    · by_cases h2 : (av : EReal) = bv
      · by_cases h3 : ai.toInt < bi.toInt
        · simp [h1, h2, h3, Scalar.select, IntOp.ori, IntOp.andi, BitVec.slt]
        · simp [h1, h2, h3, Scalar.select, IntOp.ori, IntOp.andi, BitVec.slt]
      · simp [h1, h2, Scalar.select, IntOp.ori, IntOp.andi]
  rw [e]
  split
  · rename_i h
    exact ⟨.inl rfl, Ge.refl _, .inl h⟩
  · rename_i h
    split
    · rename_i h'
      obtain ⟨h1, h2⟩ := h'
      subst h1
      exact ⟨.inl rfl, Ge.refl _, .inr ⟨rfl, h2.le⟩⟩
    · rename_i h'
      refine ⟨.inr rfl, ?_, Ge.refl _⟩
      rcases lt_or_eq_of_le (not_lt.mp h) with h1 | h1
      · exact .inl h1
      · exact .inr ⟨h1, not_lt.mp fun h2 => h' ⟨h1, h2⟩⟩

/-- A fold of the reducer keeps one of the pairs, which is no worse than any. -/
theorem foldl_spec (L : List (Ideal .f32 × BitVec 32)) (a : Ideal .f32 × BitVec 32) :
    (L.foldl reducer_argmax_f32_i32 a = a ∨ L.foldl reducer_argmax_f32_i32 a ∈ L)
      ∧ Ge (L.foldl reducer_argmax_f32_i32 a) a ∧ ∀ p ∈ L, Ge (L.foldl reducer_argmax_f32_i32 a) p := by
  induction L generalizing a with
  | nil => exact ⟨.inl rfl, Ge.refl _, fun p hp => absurd hp List.not_mem_nil⟩
  | cons b L ih =>
    obtain ⟨h1, h2, h3⟩ := ih (reducer_argmax_f32_i32 a b)
    obtain ⟨r1, r2, r3⟩ := reducer_spec a b
    rw [List.foldl_cons]
    refine ⟨?_, h2.trans r2, fun p hp => ?_⟩
    · rcases h1 with h1 | h1
      · rcases r1 with r1 | r1
        · exact .inl (h1.trans r1)
        · exact .inr (by rw [h1, r1]; exact List.mem_cons_self)
      · exact .inr (List.mem_cons_of_mem _ h1)
    · rcases List.mem_cons.mp hp with hp | hp
      · exact hp ▸ h2.trans r3
      · exact h3 p hp

/-- The sampled actions of an opponent: the places of the largest of noise plus log-probability. -/
def sampleV (n : V S18x4096x6) (d : V S4096x6) : IVec S18x4096 32 := fun j =>
  (Host.argReduce reducer_argmax_f32_i32 (addf n (broadcastInDim S18x4096x6 ![0, 1, 2] bcast_S1x4096x6_S18x4096x6_0_1_2
    (broadcastInDim S1x4096x6 ![1, 2] bcast_S4096x6_S1x4096x6_1_2 (Host.log d)))) (iotaInDim S18x4096x6 32 2)
    (constant (F := Ideal) S_ .f32 0xFF800000#32) (constantI S_ 32 0#32) reducesTo_S18x4096x6_S18x4096_d2 h_S_ j).2

theorem argmax_spec (v : V S18x4096x6) (s : Fin 18) (i : Fin 4096) :
    ∃ k : Fin 6, IsFirst (fun c => v (ix3 s i c)) k
      ∧ (Host.argReduce reducer_argmax_f32_i32 v (iotaInDim S18x4096x6 32 2)
          (constant (F := Ideal) S_ .f32 0xFF800000#32) (constantI S_ 32 0#32) reducesTo_S18x4096x6_S18x4096_d2 h_S_ (ix2 s i)).2
        = BitVec.ofNat 32 k := by
  rw [Ideal.argReduce_eq_reduce2, Host.reduce2_eq_foldl_fiber]
  have hi : ((constant (F := Ideal) S_ .f32 0xFF800000#32 : V S_) (Shape.Idx.first h_S_), (constantI S_ 32 0#32 : IVec S_ 32) (Shape.Idx.first h_S_))
      = ((⊥ : EReal), 0#32) := Prod.ext negInf_eq rfl
  obtain ⟨h1, h2, h3⟩ := foldl_spec (Host.argReduceFiber v (iotaInDim S18x4096x6 32 2) reducesTo_S18x4096x6_S18x4096_d2 (ix2 s i))
    ((constant (F := Ideal) S_ .f32 0xFF800000#32 : V S_) (Shape.Idx.first h_S_), (constantI S_ 32 0#32 : IVec S_ 32) (Shape.Idx.first h_S_))
  generalize List.foldl (reducer_argmax_f32_i32 (F := Ideal)) _ _ = r at h1 h2 h3 ⊢
  rw [hi] at h1 h2
  have hin : ∀ c : Fin 6, (v (ix3 s i c), BitVec.ofNat 32 c)
      ∈ Host.argReduceFiber v (iotaInDim S18x4096x6 32 2) reducesTo_S18x4096x6_S18x4096_d2 (ix2 s i) := fun c => by
    unfold Host.argReduceFiber
    refine List.mem_map.mpr ⟨S18x4096x6.rowMajor (ix3 s i c), List.mem_filter.mpr ⟨List.mem_finRange _, ?_⟩, ?_⟩
    · rw [Equiv.symm_apply_apply, decide_eq_true_eq]
      funext a
      apply Fin.ext
      match a with
      | ⟨0, _⟩ => exact Shape.ReducesTo.drop_apply_val_of_eq reducesTo_S18x4096x6_S18x4096_d2 (ix3 s i c) 0 0 (by decide) (by decide)
      | ⟨1, _⟩ => exact Shape.ReducesTo.drop_apply_val_of_eq reducesTo_S18x4096x6_S18x4096_d2 (ix3 s i c) 1 1 (by decide) (by decide)
    · rw [Equiv.symm_apply_apply]; rfl
  have hout : ∀ p ∈ Host.argReduceFiber v (iotaInDim S18x4096x6 32 2) reducesTo_S18x4096x6_S18x4096_d2 (ix2 s i),
      ∃ c : Fin 6, p = (v (ix3 s i c), BitVec.ofNat 32 c) := fun p hp => by
    unfold Host.argReduceFiber at hp
    obtain ⟨n, hn, rfl⟩ := List.mem_map.mp hp
    obtain ⟨-, hn⟩ := List.mem_filter.mp hn
    rw [decide_eq_true_eq] at hn
    generalize S18x4096x6.rowMajor.symm n = y at hn ⊢
    idx_vars y
    have a0 : y0 = s := Fin.ext (by
      have := congrArg (fun q => (q 0).val) hn
      exact (Shape.ReducesTo.drop_apply_val_of_eq reducesTo_S18x4096x6_S18x4096_d2 (ix3 y0 y1 y2) 0 0 (by decide)).symm.trans this)
    have a1 : y1 = i := Fin.ext (by
      have := congrArg (fun q => (q 1).val) hn
      exact (Shape.ReducesTo.drop_apply_val_of_eq reducesTo_S18x4096x6_S18x4096_d2 (ix3 y0 y1 y2) 1 1 (by decide)).symm.trans this)
    subst a0 a1
    exact ⟨y2, rfl⟩
  have hz : ∀ c : Fin 6, (BitVec.ofNat 32 c).toInt = c := by decide
  rcases h1 with h1 | h1
  · refine ⟨0, fun c => ?_, by rw [h1]; rfl⟩
    have hb : ∀ c : Fin 6, v (ix3 s i c) = (⊥ : EReal) := fun c => by
      rcases h3 _ (hin c) with h | ⟨h, -⟩
      · rw [h1] at h; exact absurd h not_lt_bot
      · rw [h1] at h; exact h
    exact ⟨by show (v (ix3 s i c) : EReal) ≤ v (ix3 s i 0); rw [hb c, hb 0], fun _ => Fin.zero_le _⟩
  · obtain ⟨k, rfl⟩ := hout r h1
    refine ⟨k, fun c => ?_, rfl⟩
    rcases h3 _ (hin c) with h | ⟨h, h'⟩
    · exact ⟨h.le, fun e => absurd e h.ne⟩
    · refine ⟨h.le, fun _ => ?_⟩
      simp only [hz] at h'
      exact_mod_cast h'

theorem sampleV_apply (n : V S18x4096x6) (d : V S4096x6) (s : Fin 18) (i : Fin 4096) :
    sampleV n d (ix2 s i) = BitVec.ofNat 32 (pick fun c => n (ix3 s i c) + Ideal.log (d (ix2 i c))) := by
  obtain ⟨k, hk, e⟩ := argmax_spec (addf n (broadcastInDim S18x4096x6 ![0, 1, 2] bcast_S1x4096x6_S18x4096x6_0_1_2
    (broadcastInDim S1x4096x6 ![1, 2] bcast_S4096x6_S1x4096x6_1_2 (Host.log d)))) s i
  refine e.trans ?_
  have : (fun c => addf n (broadcastInDim S18x4096x6 ![0, 1, 2] bcast_S1x4096x6_S18x4096x6_0_1_2
      (broadcastInDim S1x4096x6 ![1, 2] bcast_S4096x6_S1x4096x6_1_2 (Host.log d))) (ix3 s i c))
      = fun c => n (ix3 s i c) + Ideal.log (d (ix2 i c)) := by
    funext c; pointwise []
  rw [this] at hk
  rw [pick_eq hk]

/-! ## The counted probabilities -/

/-- The row numbers read: the actions, each a negative one moved up by the number of rows. -/
def rowV (a : IVec S18x4096 32) : IVec S4096x18x1 32 :=
  broadcastInDim S4096x18x1 ![0, 1] bcast_S4096x18_S4096x18x1_0_1
      (select (cmpi .slt (transpose S4096x18 [1, 0] a transposes_S18x4096_S4096x18_1_0) (broadcastInDim S4096x18 ![] bcast_S_S4096x18 (constantI S_ 32 0#32)))
        (addi (transpose S4096x18 [1, 0] a transposes_S18x4096_S4096x18_1_0) (broadcastInDim S4096x18 ![] bcast_S_S4096x18 (constantI S_ 32 4096#32)))
        (transpose S4096x18 [1, 0] a transposes_S18x4096_S4096x18_1_0))

/-- The probabilities counted for the actions. -/
def probV (d : V S4096x6) (a : IVec S18x4096 32) : V S4096x18 :=
  Host.gather gather_S4096_S4096x18x1_S4096x18_n_0_n_n_0_2_1
    (shapeCast S4096 (extractStridedSlice S4096x1 ![0, 0] d slices_S4096x6_S4096x1_0_0) shapeCasts_S4096x1_S4096) (rowV a)

theorem rowV_apply (a : IVec S18x4096 32) (s : Fin 18) (i : Fin 4096) (k : Fin 6) (h : a (ix2 s i) = BitVec.ofNat 32 k) (z : Fin 1) :
    rowV a (ix3 i s z) = BitVec.ofNat 32 k := by
  pointwise [rowV]
  rw [h]
  clear h
  revert k; decide

theorem gather_apply (v : V S4096) (r : IVec S4096x18x1 32) (s : Fin 18) (i : Fin 4096) (k : Fin 6)
    (h : r (ix3 i s 0) = BitVec.ofNat 32 k) :
    Host.gather gather_S4096_S4096x18x1_S4096x18_n_0_n_n_0_2_1 v r (ix2 i s) = v (ix1 ⟨k, by omega⟩) := by
  unfold Host.gather
  congr 1
  funext a
  have ha : a = 0 := Subsingleton.elim _ _
  subst ha
  apply Fin.ext
  have hb : (0 : Fin 1) ∉ gather_S4096_S4096x18x1_S4096x18_n_0_n_n_0_2_1.operandBatchingDims := List.not_mem_nil
  have hk : (0 : Fin 1) ∉ gather_S4096_S4096x18x1_S4096x18_n_0_n_n_0_2_1.sKept := by rw [GatherDims.mem_sKept]; decide
  have hm : (0 : Fin 1) ∈ gather_S4096_S4096x18x1_S4096x18_n_0_n_n_0_2_1.startIndexMap := List.mem_singleton.mpr rfl
  simp only [GatherDims.operandIdx, GatherDims.batchCoord_eq_zero _ _ _ hb, GatherDims.offCoord_eq_zero _ _ _ hk,
    Nat.add_zero, GatherDims.start, dif_pos hm]
  have e : gather_S4096_S4096x18x1_S4096x18_n_0_n_n_0_2_1.siIdx (ix2 i s) ⟨List.idxOf (0 : Fin 1)
      gather_S4096_S4096x18x1_S4096x18_n_0_n_n_0_2_1.startIndexMap, List.idxOf_lt_length_of_mem hm⟩ = ix3 i s 0 := by
    funext b
    apply Fin.ext
    match b with
    | ⟨0, _⟩ => rfl
    | ⟨1, _⟩ => rfl
    | ⟨2, _⟩ => rfl
  rw [e, h]
  clear e h
  revert k; decide

theorem probV_apply (d : V S4096x6) (a : IVec S18x4096 32) (s : Fin 18) (i : Fin 4096) (k : Fin 6)
    (h : a (ix2 s i) = BitVec.ofNat 32 k) : probV d a (ix2 i s) = d (ix2 ⟨k, by omega⟩ 0) := by
  unfold probV
  rw [gather_apply _ _ s i k (rowV_apply a s i k h 0)]
  pointwise []

end Cert.RefOps

end
-- ==== Proof.RefMain.lean ====
/- The reference's run: its arguments end unchanged, and its result is the agent's mean distribution at every index. -/
module

public import proofs.«01_k».proof.Proof.RefNoise
public import proofs.«01_k».proof.Proof.RefOps

@[expose] public section

set_option maxRecDepth 16384

noncomputable section

namespace Cert.RefMain

open Idealize.ShloMosaic Idealize.ShloMosaic.StableHlo Idealize.SL.Sem Cert.ReferenceIdeal Cert.Ssa Cert.RefNoise Cert.Spec
open Cert.RefOps (V logitV distV sampleV rowV probV distV_apply sampleV_apply probV_apply)
open Cert.RefJoint (hotV agentV smxV meanV hotV_apply agentV_apply smxV_apply meanV_apply)
open Cert.ReferenceIdeal.Facts₀ Cert.ReferenceIdeal.Facts

/-- The values to choose the largest from are those of the first call of the arg-max. -/
abbrev r69 : TRef sig ⟨S18x4096x6, .f32⟩ := .of main_v69
/-- Those of the second call. -/
abbrev r103 : TRef sig ⟨S18x4096x6, .f32⟩ := .of main_v103
/-- The pairs of actions. -/
abbrev r124 : TRef sig ⟨S4096x18x2, .i32⟩ := .of main_v124

/-- The arg-max of noise plus log-probability, before the noise is named. -/
def argV (v : V S18x4096x6) : IVec S18x4096 32 := fun j =>
  (Host.argReduce reducer_argmax_f32_i32 v (iotaInDim S18x4096x6 32 2)
    (constant (F := Ideal) S_ .f32 0xFF800000#32) (constantI S_ 32 0#32) reducesTo_S18x4096x6_S18x4096_d2 h_S_ j).2

theorem argmax3 : Line (nD := nD) (τ := τ) (fn_argmax.body (F := Ideal) r69 main_call3)
    (rk main_call3.v0.ref) (rk main_call3.v1_1.ref + 1) fun W => rd W main_call3.v1_1 = argV (rd W r69) := by
  apply Line.mono
  · unfold fn_argmax.body
    repeat' first
      | with_reducible apply Line.last
      | with_reducible apply Line.seq
      | with_reducible exact Line.tnullary _
      | with_reducible apply Line.tquaternary
      | exact rfl
  · intro W h
    obtain ⟨e1, e2, e3, e4, e5⟩ := h
    rw [e5, e1, e2, e3]; rfl

theorem argmax4 : Line (nD := nD) (τ := τ) (fn_argmax.body (F := Ideal) r103 main_call4)
    (rk main_call4.v0.ref) (rk main_call4.v1_1.ref + 1) fun W => rd W main_call4.v1_1 = argV (rd W r103) := by
  apply Line.mono
  · unfold fn_argmax.body
    repeat' first
      | with_reducible apply Line.last
      | with_reducible apply Line.seq
      | with_reducible exact Line.tnullary _
      | with_reducible apply Line.tquaternary
      | exact rfl
  · intro W h
    obtain ⟨e1, e2, e3, e4, e5⟩ := h
    rw [e5, e1, e2, e3]; rfl

/-- The one-hot vectors of pairs of actions. -/
def oneHotV (a : IVec S4096x18x2 32) : V S4096x18x2x6 :=
  uitofp (F := Ideal) .f32 (cmpi .eq
    (broadcastInDim S4096x18x2x6 ![0, 1, 2, 3] bcast_S4096x18x2x1_S4096x18x2x6_0_1_2_3 (broadcastInDim S4096x18x2x1 ![0, 1, 2] bcast_S4096x18x2_S4096x18x2x1_0_1_2 a))
    (broadcastInDim S4096x18x2x6 ![0, 1, 2, 3] bcast_S1x1x1x6_S4096x18x2x6_0_1_2_3 (iotaInDim S1x1x1x6 32 3)))

theorem oneHot5 : Line (nD := nD) (τ := τ) (fn_one_hot.body (F := Ideal) r124 main_call5)
    (rk main_call5.v0.ref) (rk main_call5.v5.ref + 1) fun W => rd W main_call5.v5 = oneHotV (rd W r124) := by
  apply Line.mono
  · unfold fn_one_hot.body
    repeat' first
      | with_reducible apply Line.last
      | with_reducible apply Line.seq
      | with_reducible exact Line.tnullary _
      | with_reducible apply Line.tunary
      | with_reducible apply Line.tbinary
      | exact rfl
  · intro W h
    obtain ⟨e1, e2, e3, e4, e5, e6⟩ := h
    rw [e6, e5, e3, e4, e1, e2]; rfl

/-- The noise of one opponent. -/
def noise0 (n : V S2x18x4096x6) : V S18x4096x6 :=
  shapeCast S18x4096x6 (extractStridedSlice S1x18x4096x6 ![0, 0, 0, 0] n slices_S2x18x4096x6_S1x18x4096x6_0_0_0_0) shapeCasts_S1x18x4096x6_S18x4096x6
/-- The noise of the other opponent. -/
def noise1 (n : V S2x18x4096x6) : V S18x4096x6 :=
  shapeCast S18x4096x6 (extractStridedSlice S1x18x4096x6 ![1, 0, 0, 0] n slices_S2x18x4096x6_S1x18x4096x6_1_0_0_0) shapeCasts_S1x18x4096x6_S18x4096x6

theorem noise0_apply (n : V S2x18x4096x6) (s : Fin 18) (i : Fin 4096) (c : Fin 6) : noise0 n (ix3 s i c) = n (ix4 0 s i c) := by
  pointwise [noise0]

theorem noise1_apply (n : V S2x18x4096x6) (s : Fin 18) (i : Fin 4096) (c : Fin 6) : noise1 n (ix3 s i c) = n (ix4 1 s i c) := by
  pointwise [noise1]

/-- The second part of the reference: the opponents' distributions, the first's sampled actions and what they count. -/
theorem part1 (d : Dev nD) : Line (nD := nD) (τ := τ) (main_part1 (F := Ideal) d) (rk main_v49) (rk main_v100 + 1) fun W =>
    (at_ W main_v48 : V S256x6) = transpose S256x6 [1, 0] (at_ W main_arg1 : V S6x256) transposes_S6x256_S256x6_1_0 →
    (at_ W main_v71 : IVec S4096x18 32) = transpose S4096x18 [1, 0] (sampleV (noise0 (at_ W main_v47)) (distV (at_ W main_arg0) (at_ W main_arg1) (at_ W main_arg2))) transposes_S18x4096_S4096x18_1_0
    ∧ (at_ W main_v81 : V S4096x18) = probV (distV (at_ W main_arg0) (at_ W main_arg1) (at_ W main_arg2)) (sampleV (noise0 (at_ W main_v47)) (distV (at_ W main_arg0) (at_ W main_arg1) (at_ W main_arg2)))
    ∧ (at_ W main_v97 : V S4096x6) = distV (at_ W main_arg0) (at_ W main_arg3) (at_ W main_arg4)
    ∧ (at_ W main_v98 : V S4096x6) = Host.log (F := Ideal) (φ := .f32) (distV (at_ W main_arg0) (at_ W main_arg3) (at_ W main_arg4))
    ∧ (at_ W main_v100 : V S18x4096x6) = noise1 (at_ W main_v47) := by
  apply Line.mono
  · unfold main_part1
    repeat' first
      | with_reducible exact argmax3
      | with_reducible apply Line.last
      | with_reducible apply Line.seq
      | with_reducible exact Line.nullary _ _
      | with_reducible apply Line.unary
      | with_reducible apply Line.binary
      | with_reducible apply Line.ternary
      | with_reducible apply Line.reshape
      | exact rfl
  · intro W h e48
    obtain ⟨e49, e50, e51, e52, c9, e53, c10, e54, e55, e56, e57, e58, e59, c11, e60, e61, e62, e63, e64, e65, e66, e67, e68, e69, e70,
      e71, e72, e73, e74, c12, e75, e76, c13, e77, e78, e79, e80, e81, e82, e83, e84, e85, e86, c14, e87, c15, e88, e89, e90, e91, e92, e93,
      c16, e94, e95, e96, e97, e98, e99, e100⟩ := h
    have p52 : at_ W main_v52 = logitV (at_ W main_arg0) (at_ W main_arg1) (at_ W main_arg2) := by
      rw [e52, e49, e51, e50, e48]; rfl
    have p59 : at_ W main_v59 = RefOps.expV (at_ W main_v52) := by
      rw [e59, e58, e57, e56, e55, e54, c10, e53, c9]; rfl
    have p63 : at_ W main_v63 = distV (at_ W main_arg0) (at_ W main_arg1) (at_ W main_arg2) := by
      rw [e63, e62, e61, e60, c11, p59, p52]; rfl
    have p70 : at_ W main_v70 = sampleV (noise0 (at_ W main_v47)) (distV (at_ W main_arg0) (at_ W main_arg1) (at_ W main_arg2)) := by
      refine e70.trans ?_
      show argV (at_ W main_v69) = _
      rw [e69, e68, e67, e66, e65, e64, p63]; rfl
    have p97 : at_ W main_v97 = distV (at_ W main_arg0) (at_ W main_arg3) (at_ W main_arg4) := by
      have p86 : at_ W main_v86 = logitV (at_ W main_arg0) (at_ W main_arg3) (at_ W main_arg4) := by
        rw [e86, e83, e85, e84, e82]; rfl
      have p93 : at_ W main_v93 = RefOps.expV (at_ W main_v86) := by
        rw [e93, e92, e91, e90, e89, e88, c15, e87, c14]; rfl
      rw [e97, e96, e95, e94, c16, p93, p86]; rfl
    refine ⟨?_, ?_, p97, ?_, ?_⟩
    · rw [e71, p70]
    · rw [e81, e80, e79, e78, e77, c13, e76, e75, c12, e74, e73, e72, p70, p63]; rfl
    · rw [e98, p97]
    · rw [e100, e99]; rfl

/-- The third part of the reference: the second opponent's sampled actions, and the mean distribution. -/
theorem part2 (d : Dev nD) : Line (nD := nD) (τ := τ) (main_part2 (F := Ideal) d) (rk main_v101) (rk main_v147 + 1) fun W =>
    ∀ (n : V S18x4096x6) (p : V S4096x6), (at_ W main_v98 : V S4096x6) = Host.log (F := Ideal) (φ := .f32) p → (at_ W main_v97 : V S4096x6) = p → (at_ W main_v100 : V S18x4096x6) = n →
    (at_ W main_v147 : V S4096x6) = meanV (at_ W main_v81) (probV p (sampleV n p))
      (smxV (agentV (at_ W main_arg0) (hotV (at_ W main_v71) (transpose S4096x18 [1, 0] (sampleV n p) transposes_S18x4096_S4096x18_1_0))
        (at_ W main_arg5) (at_ W main_arg6))) := by
  apply Line.mono
  · unfold main_part2
    repeat' first
      | with_reducible exact argmax4
      | with_reducible exact oneHot5
      | with_reducible apply Line.last
      | with_reducible apply Line.seq
      | with_reducible exact Line.nullary _ _
      | with_reducible apply Line.unary
      | with_reducible apply Line.binary
      | with_reducible apply Line.ternary
      | with_reducible apply Line.reshape
      | exact rfl
  · intro W h n p e98 e97 e100
    obtain ⟨e101, e102, e103, e104, e105, e106, e107, e108, c17, e109, e110, c18, e111, e112, e113, e114, e115, e116, c19, e117, e118, e119,
      e120, e121, e122, e123, e124, e125, e126, e127, e128, e129, e130, e131, e132, e133, e134, c20, e135, c21, e136, e137, e138, e139, e140,
      e141, c22, e142, e143, e144, e145, e146, e147⟩ := h
    have p104 : at_ W main_v104 = sampleV n p := by
      refine e104.trans ?_
      show argV (at_ W main_v103) = _
      rw [e103, e102, e101, e98, e100]; rfl
    have p115 : at_ W main_v115 = probV p (sampleV n p) := by
      rw [e115, e114, e113, e112, e111, c18, e110, e109, c17, e108, e107, e106, p104, e97]; rfl
    have p126 : at_ W main_v126 = hotV (at_ W main_v71) (transpose S4096x18 [1, 0] (sampleV n p) transposes_S18x4096_S4096x18_1_0) := by
      have p125 : at_ W main_v125 = oneHotV (at_ W main_v124) := e125
      rw [e126, p125, e124, e123, e122, e105, p104]; rfl
    have p134 : at_ W main_v134 = agentV (at_ W main_arg0) (at_ W main_v126) (at_ W main_arg5) (at_ W main_arg6) := by
      rw [e134, e133, e132, e131, e130, e129, e128, e127]; rfl
    have p141 : at_ W main_v141 = RefJoint.expV (at_ W main_v134) := by
      rw [e141, e140, e139, e138, e137, e136, c21, e135, c20]; rfl
    have p145 : at_ W main_v145 = smxV (at_ W main_v134) := by
      rw [e145, e144, e143, e142, c22, p141]; rfl
    have p116 : at_ W main_v116 = mulf (F := Ideal) (φ := .f32) (at_ W main_v81) (at_ W main_v115) := e116
    rw [e147, e146, e121, e120, e119, e118, e117, c19, p116, p145, p134, p126, p115]; rfl

/-- The arguments of the reference on device `d`, as launched, and its result's value at every index. -/
def Value (W : Valuation τ sig (Elt Ideal)) : Prop :=
  ∀ (i : Fin 4096) (j : Fin 6), (at_ W main_v147 : V S4096x6) (ix2 i j)
    = out (at_ W main_arg0) (at_ W main_arg1) (at_ W main_arg2) (at_ W main_arg3) (at_ W main_arg4) (at_ W main_arg5) (at_ W main_arg6) i j

theorem main_line (d : Dev nD) : Line (nD := nD) (τ := τ) (main (F := Ideal) d) (rk main_v0) (rk main_v147 + 1) Value := by
  apply Line.mono
  · unfold main
    exact Line.seq (part0 d) (Line.seq (part1 d) (part2 d) rfl) rfl
  · rintro W ⟨⟨hn, h48⟩, h1, h2⟩ i j
    obtain ⟨h71, h81, h97, h98, h100⟩ := h1 h48
    rw [h2 _ _ h98 h97 h100, meanV_apply, h71, h81]
    have d1 : (fun (i : Fin 4096) (c : Fin 6) => distV (at_ W main_arg0) (at_ W main_arg1) (at_ W main_arg2) (ix2 i c))
        = dist (at_ W main_arg0) (at_ W main_arg1) (at_ W main_arg2) := funext₂ fun i c => distV_apply _ _ _ i c
    have d2 : (fun (i : Fin 4096) (c : Fin 6) => distV (at_ W main_arg0) (at_ W main_arg3) (at_ W main_arg4) (ix2 i c))
        = dist (at_ W main_arg0) (at_ W main_arg3) (at_ W main_arg4) := funext₂ fun i c => distV_apply _ _ _ i c
    have s1 : ∀ s, sampleV (noise0 (at_ W main_v47)) (distV (at_ W main_arg0) (at_ W main_arg1) (at_ W main_arg2)) (ix2 s i)
        = BitVec.ofNat 32 (act 0 (dist (at_ W main_arg0) (at_ W main_arg1) (at_ W main_arg2)) s i) := fun s => by
      rw [sampleV_apply, ← d1]
      simp only [noise0_apply, hn]; rfl
    have s2 : ∀ s, sampleV (noise1 (at_ W main_v47)) (distV (at_ W main_arg0) (at_ W main_arg3) (at_ W main_arg4)) (ix2 s i)
        = BitVec.ofNat 32 (act 1 (dist (at_ W main_arg0) (at_ W main_arg3) (at_ W main_arg4)) s i) := fun s => by
      rw [sampleV_apply, ← d2]
      simp only [noise1_apply, hn]; rfl
    unfold out
    congr 1
    · funext s
      rw [probV_apply _ _ s i _ (s1 s), probV_apply _ _ s i _ (s2 s), distV_apply, distV_apply]; rfl
    · funext s
      rw [smxV_apply]
      congr 1
      funext c
      exact agentV_apply _ _ _ _ i s c _ _ fun t => hotV_apply _ _ i s _ _ ((by pointwise [] : _ = _).trans (s1 s)) ((by pointwise [] : _ = _).trans (s2 s)) t

/-- Every run of the reference ends with the buffers it never writes as launched, its counters at zero, and the mean
    distribution in its result. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ d : Dev nD, ∃ W : Valuation τ sig (Elt Ideal), Value W
      ∧ (∀ b : Ref sig .tc, r.2.mem ((d.tc : Thread nD τ).loc b) = at_ W b)
      ∧ ∀ b : Ref sig .tc, rk b < rk main_v0 → at_ W b = m ((d.tc : Thread nD τ).loc b) :=
  Line.run _ _ main_line (by decide) (by decide) m ρ

end Cert.RefMain

end
-- ==== Proof.KerBody.lean ====
/- What one grid point of the kernel stores, as one function of the blocks it reads. -/
module

public import proofs.«01_k».proof.Proof.Gen.KernelIdeal.Value
public import Idealize.ShloMosaic.Lib.Pipeline.ReadBack
public import proofs.«01_k».proof.Proof.Spec

@[expose] public section

set_option maxRecDepth 16384

noncomputable section

namespace Cert.KerBody

open Idealize.ShloMosaic Idealize.ShloMosaic.TcCoe Cert.KernelIdeal Cert.KernelIdeal.Gen

/-- An array of reals of a shape. -/
abbrev V (s : Shape) := FVec Ideal s .f32
/-- The table of keys. -/
abbrev K := IVec S216x9 32

/-- The noise of every choice and every lane: the hash of the lane's counter under the row's key. -/
def table (i : grid0.Coords) (k : K) : V S216x1024 :=
  let c0 := View.ld (Val := Elt Ideal) (e' := .i32) k (Rect.unit ![0, 0] S216x1.size inb_S216x9_S216x1_0_0)
  let c1 := View.ld (Val := Elt Ideal) (e' := .i32) k (Rect.unit ![0, 1] S216x1.size inb_S216x9_S216x1_0_1)
  let c2 := View.ld (Val := Elt Ideal) (e' := .i32) k (Rect.unit ![0, 2] S216x1.size inb_S216x9_S216x1_0_2)
  let c3 := View.ld (Val := Elt Ideal) (e' := .i32) k (Rect.unit ![0, 3] S216x1.size inb_S216x9_S216x1_0_3)
  let c4 := View.ld (Val := Elt Ideal) (e' := .i32) k (Rect.unit ![0, 4] S216x1.size inb_S216x9_S216x1_0_4)
  let c5 := View.ld (Val := Elt Ideal) (e' := .i32) k (Rect.unit ![0, 5] S216x1.size inb_S216x9_S216x1_0_5)
  let c6 := View.ld (Val := Elt Ideal) (e' := .i32) k (Rect.unit ![0, 6] S216x1.size inb_S216x9_S216x1_0_6)
  let c7 := View.ld (Val := Elt Ideal) (e' := .i32) k (Rect.unit ![0, 7] S216x1.size inb_S216x9_S216x1_0_7)
  let c8 := View.ld (Val := Elt Ideal) (e' := .i32) k (Rect.unit ![0, 8] S216x1.size inb_S216x9_S216x1_0_8)
  let p := k0_pay19 (F := Ideal) c1 c3 (k0_pay5 (F := Ideal) i c0 c8) (k0_pay6 (F := Ideal) i c0 c8) (k0_pay7 (F := Ideal) i c0 c8)
  let q := k0_pay20 (F := Ideal) c1 c3 (k0_pay5 (F := Ideal) i c0 c8) (k0_pay6 (F := Ideal) i c0 c8) (k0_pay7 (F := Ideal) i c0 c8)
  let r := k0_pay32 (F := Ideal) c0 c2 c4 c5 p q
  let s := k0_pay33 (F := Ideal) c0 c2 c4 c5 p q
  let t := k0_pay34 (F := Ideal) c0 c2 c4 c5 p q
  k0_pay48 (F := Ideal) c2 c7 (k0_pay46 (F := Ideal) c1 c6 r s t) (k0_pay47 (F := Ideal) c1 c6 r s t)

/-- The first opponent's log-probabilities. -/
def logs1 (x : V S1024x256) (w : V S6x256) (b : V S1x6) : V S6x1024 := k0_pay56 x (k0_pay50 b) w

/-- The second opponent's. -/
def logs2 (x : V S1024x256) (w : V S6x256) (b : V S1x6) : V S6x1024 :=
  k0_pay58 x (k0_pay51 b) (k0_pay52 b) (k0_pay53 b) (k0_pay54 b) w

/-- The first opponent's probabilities of the first action, for the first eight rows. -/
def row1 (x : V S1024x256) (w : V S6x256) (b : V S1x6) : V S1x8 := k0_pay59 x (k0_pay50 b) w

/-- The second opponent's. -/
def row2 (x : V S1024x256) (w : V S6x256) (b : V S1x6) : V S1x8 :=
  k0_pay60 x (k0_pay51 b) (k0_pay52 b) (k0_pay53 b) (k0_pay54 b) w

/-- The first opponent's sampled action, as a real, for every sample and lane. -/
def choice1 (x : V S1024x256) (w : V S6x256) (b : V S1x6) (g : V S216x1024) : V S18x1024 :=
  k0_pay62 (logs1 x w b)
    (k0_pay61 x (k0_pay50 b) w (View.ld (Val := Elt Ideal) (e' := .f32) g (Rect.unit ![0, 0] S18x1024.size inb_S216x1024_S18x1024_0_0)))
    (View.ld (Val := Elt Ideal) (e' := .f32) g (Rect.unit ![18, 0] S18x1024.size inb_S216x1024_S18x1024_18_0))
    (View.ld (Val := Elt Ideal) (e' := .f32) g (Rect.unit ![36, 0] S18x1024.size inb_S216x1024_S18x1024_36_0))
    (View.ld (Val := Elt Ideal) (e' := .f32) g (Rect.unit ![54, 0] S18x1024.size inb_S216x1024_S18x1024_54_0))
    (View.ld (Val := Elt Ideal) (e' := .f32) g (Rect.unit ![72, 0] S18x1024.size inb_S216x1024_S18x1024_72_0))
    (View.ld (Val := Elt Ideal) (e' := .f32) g (Rect.unit ![90, 0] S18x1024.size inb_S216x1024_S18x1024_90_0))

/-- The second opponent's. -/
def choice2 (x : V S1024x256) (w : V S6x256) (b : V S1x6) (g : V S216x1024) : V S18x1024 :=
  k0_pay64 (logs2 x w b) (k0_pay63 (logs2 x w b))
    (View.ld (Val := Elt Ideal) (e' := .f32) g (Rect.unit ![108, 0] S18x1024.size inb_S216x1024_S18x1024_108_0))
    (View.ld (Val := Elt Ideal) (e' := .f32) g (Rect.unit ![126, 0] S18x1024.size inb_S216x1024_S18x1024_126_0))
    (View.ld (Val := Elt Ideal) (e' := .f32) g (Rect.unit ![144, 0] S18x1024.size inb_S216x1024_S18x1024_144_0))
    (View.ld (Val := Elt Ideal) (e' := .f32) g (Rect.unit ![162, 0] S18x1024.size inb_S216x1024_S18x1024_162_0))
    (View.ld (Val := Elt Ideal) (e' := .f32) g (Rect.unit ![180, 0] S18x1024.size inb_S216x1024_S18x1024_180_0))
    (View.ld (Val := Elt Ideal) (e' := .f32) g (Rect.unit ![198, 0] S18x1024.size inb_S216x1024_S18x1024_198_0))

/-- A table entry chosen by the first opponent's action. -/
def weigh1 (t : V S1x8) (a : V S18x1024) : V S18x1024 :=
  k0_pay100 t a (k0_pay87 t a (k0_pay83 t a (k0_pay70 t a)))

/-- A table entry chosen by the second opponent's action. -/
def weigh2 (t : V S1x8) (a : V S18x1024) : V S18x1024 :=
  k0_pay137 t a (k0_pay123 t a (k0_pay118 t a (k0_pay104 t a)))

section

variable (w : V S6x268) (a c : V S18x1024) (y : V S6x1024) (b : V S1x6)

/-- The agent's first logit, before the second opponent's last action is added. -/
def logit0 : V S18x1024 :=
  k0_pay130 w c (k0_pay124 w c (k0_pay111 w c (k0_pay105 w c (k0_pay93 w a (k0_pay88 w a
    (k0_pay76 w a (k0_pay71 w a y b)) (k0_pay82 a))) (k0_pay99 a))) (k0_pay117 c) (k0_pay119 w))
/-- The second. -/
def logit1 : V S18x1024 :=
  k0_pay131 w c (k0_pay125 w c (k0_pay112 w c (k0_pay106 w c (k0_pay94 w a (k0_pay89 w a
    (k0_pay77 w a (k0_pay72 w a y b)) (k0_pay82 a))) (k0_pay99 a))) (k0_pay117 c))
/-- The third. -/
def logit2 : V S18x1024 :=
  k0_pay132 w c (k0_pay126 w c (k0_pay113 w c (k0_pay107 w c (k0_pay95 w a (k0_pay90 w a
    (k0_pay78 w a (k0_pay73 w a y b)) (k0_pay82 a))) (k0_pay99 a))) (k0_pay117 c))
/-- The fourth. -/
def logit3 : V S18x1024 :=
  k0_pay133 w c (k0_pay127 w c (k0_pay114 w c (k0_pay108 w c (k0_pay96 w a (k0_pay91 w a
    (k0_pay79 w a (k0_pay74 w a y b)) (k0_pay82 a))) (k0_pay99 a))) (k0_pay117 c))
/-- The fifth. -/
def logit4 : V S18x1024 :=
  k0_pay134 w c (k0_pay120 w (k0_pay115 w c (k0_pay101 w (k0_pay97 w a (k0_pay84 w
    (k0_pay80 w a (k0_pay67 y b) (k0_pay69 a)) (k0_pay82 a)) (k0_pay86 a)) (k0_pay99 a)) (k0_pay103 c) (k0_pay109 w))
    (k0_pay117 c)) (k0_pay122 c) (k0_pay128 w)
/-- The sixth. -/
def logit5 : V S18x1024 :=
  k0_pay135 w c (k0_pay121 w (k0_pay116 w c (k0_pay102 w (k0_pay98 w a (k0_pay85 w
    (k0_pay81 w a (k0_pay68 y b) (k0_pay69 a)) (k0_pay82 a)) (k0_pay86 a)) (k0_pay99 a)) (k0_pay103 c)) (k0_pay117 c))
    (k0_pay122 c)

end

/-- The block of results: the means of the agent's distributions, from the six logits and the samples' weights. -/
def mix (w : V S6x268) (c l0 l1 l2 l3 l4 l5 p q : V S18x1024) : V S1024x6 :=
  let m := k0_pay136 c
  let e := k0_pay138 w
  k0_pay1 (k0_pay147 w l0 l1 l2 l3 l4 l5 m e) (k0_pay148 w l0 l1 l2 l3 l4 l5 m e) (k0_pay149 w l0 l1 l2 l3 l4 l5 m e)
    (k0_pay150 w l0 l1 l2 l3 l4 l5 m e) (k0_pay151 w l0 l1 l2 l3 l4 l5 m e) (k0_pay153 w p l0 l1 l2 l3 l4 l5 m q e)
    (k0_pay154 p q) (k0_pay155 w p l0 l1 l2 l3 l4 l5 m q e)

/-- The block one grid point stores. -/
def body (i : grid0.Coords) (x : V S1024x256) (k : K) (w1 : V S6x256) (b1 : V S1x6) (w2 : V S6x256) (b2 : V S1x6)
    (w : V S6x268) (b : V S1x6) (t1 t2 : V S1x8) : V S1024x6 :=
  let g := table i k
  let a := choice1 x w1 b1 g
  let c := choice2 x w2 b2 g
  let y := k0_pay65 (k0_pay49 w) x
  mix w c (logit0 w a c y b) (logit1 w a c y b) (logit2 w a c y b) (logit3 w a c y b) (logit4 w a c y b)
    (logit5 w a c y b) (weigh1 t1 a) (weigh2 t2 c)

theorem hz : (![0, 0] : Fin 2 → Nat) = fun _ => 0 := funext fun a => by fin_cases a <;> rfl

/-- Rows of the noise table, read back after it was stored whole. -/
theorem ld_table (a10 : Memref sig .tc .vmem S216x1024 .f32) (Z : V S216x1024) (r : Rect S216x1024) :
    a10.view.readCov (Val := Elt Ideal) [⟨Rect.unit ![0, 0] (no_index S216x1024.size) inb_S216x1024_S216x1024_0_0, Z⟩] r.toLoadRect
      = View.ld Z r :=
  View.readCov_fill _ _ _ _ _ fun a => by fin_cases a <;> rfl

variable (d : Dev nD) (i : grid0.Coords)

/-- After the first point the block reads the two rows kept from it. -/
theorem out_B (a1 h1 a2 h2 a3 h3 a4 h4 a5 h5 a6 h6 a7 h7 a8 h8 a9 h9 a10 h10 a11 h11) (hc)
    (x0 : V S1024x256) (x1 x2 x3 x4 x5 x6 x7) (xs : V S2x8) :
    out0_B_8 (F := Ideal) d i a1 h1 a2 h2 a3 h3 a4 h4 a5 h5 a6 h6 a7 h7 a8 h8 a9 h9 a10 h10 a11 h11 hc x0 x1 x2 x3 x4 x5 x6 x7 xs
      = body i x0 x1 x2 x3 x4 x5 x6 x7
          (View.ld (Val := Elt Ideal) (e' := .f32) xs (Rect.unit ![0, 0] S1x8.size inb_S2x8_S1x8_0_0))
          (View.ld (Val := Elt Ideal) (e' := .f32) xs (Rect.unit ![1, 0] S1x8.size inb_S2x8_S1x8_1_0)) := by
  unfold out0_B_8
  rw [View.read_writes_eq_canon _ _ _ (cover0_B_8 d i a1 h1 a2 h2 a3 h3 a4 h4 a5 h5 a6 h6 a7 h7 a8 h8 a9 h9 a10 h10 a11 h11 hc x0 x1 x2 x3 x4 x5 x6 x7 xs)]
  unfold kernelRun0_B
  dsimp only
  rw [View.canon_unit_zero hz]
  sl_unfold_words
  simp only [View.readAt_eq_ld, h1.read_unread, h2.read_unread, h3.read_unread, h4.read_unread, h5.read_unread, h6.read_unread, h7.read_unread, h8.read_unread, h11.read_unread,
    View.ld_unit_zero (S := S1024x256) hz, View.ld_unit_zero (S := S6x256) hz, View.ld_unit_zero (S := S1x6) hz,
    View.ld_unit_zero (S := S6x268) hz]
  simp only [ld_table]
  rfl

/-- The last of two stores, the row below, read back. -/
theorem ld_low (a11 : View sig .tc .vmem S2x8 .f32) (P Q : V S1x8) :
    a11.readCov (Val := Elt Ideal) [⟨Rect.unit ![1, 0] (no_index S1x8.size) inb_S2x8_S1x8_1_0, P⟩, ⟨Rect.unit ![0, 0] (no_index S1x8.size) inb_S2x8_S1x8_0_0, Q⟩]
      (Rect.unit (s := S2x8) ![1, 0] (no_index S1x8.size) inb_S2x8_S1x8_1_0).toLoadRect = P :=
  View.readCov_cons_toLoadRect ..

/-- The first of them, the row above, read back. -/
theorem ld_high (a11 : View sig .tc .vmem S2x8 .f32) (P Q : V S1x8) :
    a11.readCov (Val := Elt Ideal) [⟨Rect.unit ![1, 0] (no_index S1x8.size) inb_S2x8_S1x8_1_0, P⟩, ⟨Rect.unit ![0, 0] (no_index S1x8.size) inb_S2x8_S1x8_0_0, Q⟩]
      (Rect.unit (s := S2x8) ![0, 0] (no_index S1x8.size) inb_S2x8_S1x8_0_0).toLoadRect = Q :=
  (View.readCov_skip _ _ _ _ _ (by decide)).trans (View.readCov_cons_toLoadRect ..)

/-- At the first point the block reads the two rows it has just computed. -/
theorem out_A (a1 h1 a2 h2 a3 h3 a4 h4 a5 h5 a6 h6 a7 h7 a8 h8 a9 h9 a10 h10 a11 h11) (hc)
    (x0 : V S1024x256) (x1 x2 x3 x4 x5 x6 x7) :
    out0_A_8 (F := Ideal) d i a1 h1 a2 h2 a3 h3 a4 h4 a5 h5 a6 h6 a7 h7 a8 h8 a9 h9 a10 h10 a11 h11 hc x0 x1 x2 x3 x4 x5 x6 x7
      = body i x0 x1 x2 x3 x4 x5 x6 x7 (row1 x0 x2 x3) (row2 x0 x4 x5) := by
  unfold out0_A_8
  rw [View.read_writes_eq_canon _ _ _ (cover0_A_8 d i a1 h1 a2 h2 a3 h3 a4 h4 a5 h5 a6 h6 a7 h7 a8 h8 a9 h9 a10 h10 a11 h11 hc x0 x1 x2 x3 x4 x5 x6 x7)]
  unfold kernelRun0_A
  dsimp only
  rw [View.canon_unit_zero hz]
  sl_unfold_words
  simp only [View.readAt_eq_ld, h1.read_unread, h2.read_unread, h3.read_unread, h4.read_unread, h5.read_unread, h6.read_unread, h7.read_unread, h8.read_unread,
    View.ld_unit_zero (S := S1024x256) hz, View.ld_unit_zero (S := S6x256) hz, View.ld_unit_zero (S := S1x6) hz,
    View.ld_unit_zero (S := S6x268) hz]
  simp only [ld_table, ld_low, ld_high]
  rfl

/-- The first of the two rows kept from the first point. -/
theorem kept1 (a1 h1 a2 h2 a3 h3 a4 h4 a5 h5 a6 h6 a7 h7 a8 h8 a9 h9 a10 h10 a11 h11) (hc)
    (x0 : V S1024x256) (x1 x2 x3 x4 x5 x6 x7) :
    View.ld (Val := Elt Ideal) (e' := .f32) (sout0_A_1 (F := Ideal) d i a1 h1 a2 h2 a3 h3 a4 h4 a5 h5 a6 h6 a7 h7 a8 h8 a9 h9 a10 h10 a11 h11 hc x0 x1 x2 x3 x4 x5 x6 x7)
      (Rect.unit ![0, 0] S1x8.size inb_S2x8_S1x8_0_0) = row1 x0 x2 x3 := by
  unfold sout0_A_1 kernelRun0_A
  dsimp only
  sl_unfold_words
  simp only [View.readAt_eq_ld, h1.read_unread, h3.read_unread, h4.read_unread, h5.read_unread, h6.read_unread,
    View.ld_unit_zero (S := S1024x256) hz, View.ld_unit_zero (S := S6x256) hz, View.ld_unit_zero (S := S1x6) hz]
  exact ld_high VS0_1 _ _

/-- The second. -/
theorem kept2 (a1 h1 a2 h2 a3 h3 a4 h4 a5 h5 a6 h6 a7 h7 a8 h8 a9 h9 a10 h10 a11 h11) (hc)
    (x0 : V S1024x256) (x1 x2 x3 x4 x5 x6 x7) :
    View.ld (Val := Elt Ideal) (e' := .f32) (sout0_A_1 (F := Ideal) d i a1 h1 a2 h2 a3 h3 a4 h4 a5 h5 a6 h6 a7 h7 a8 h8 a9 h9 a10 h10 a11 h11 hc x0 x1 x2 x3 x4 x5 x6 x7)
      (Rect.unit ![1, 0] S1x8.size inb_S2x8_S1x8_1_0) = row2 x0 x4 x5 := by
  unfold sout0_A_1 kernelRun0_A
  dsimp only
  sl_unfold_words
  simp only [View.readAt_eq_ld, h1.read_unread, h3.read_unread, h4.read_unread, h5.read_unread, h6.read_unread,
    View.ld_unit_zero (S := S1024x256) hz, View.ld_unit_zero (S := S6x256) hz, View.ld_unit_zero (S := S1x6) hz]
  exact ld_low VS0_1 _ _

end Cert.KerBody
-- ==== Proof.KerHash.lean ====
/- The kernel's noise table at an index: the hash of the lane's counter under the row's key, read off the payloads round by
   round. -/
module

public import proofs.«01_k».proof.Proof.KerBody
public import Idealize.ShloMosaic.Lib.Pipeline.ValueKit.Tiles

@[expose] public section

set_option maxRecDepth 16384

noncomputable section

namespace Cert.KerHash

open Idealize.ShloMosaic Idealize.ShloMosaic.TcCoe Cert.KernelIdeal Cert.KernelIdeal.Gen Cert.Threefry Cert.Spec Cert.KerBody

/-- A word for every row and lane. -/
abbrev T := IVec S216x1024 32
/-- A word for every row. -/
abbrev C := IVec S216x1 32

/-- One round of the kernel at an index. -/
theorem round (q : S216x1024.Idx) {x0 x1 y z : T} (r s : BitVec 32) (ey : y = addi x0 x1)
    (ez : z = xori (ori (shli x1 (broadcast S216x1024 r)) (shrui x1 (broadcast S216x1024 s))) y)
    {p : BitVec 32 × BitVec 32} (hp : (x0 q, x1 q) = p)
    (hr : r.toNat < 32 := by decide) (hs : s.toNat < 32 := by decide) : (y q, z q) = Threefry.mix r s p := by
  subst hp
  have e3 : shli x1 (broadcast S216x1024 r) q = x1 q <<< r := if_pos hr
  have e4 : shrui x1 (broadcast S216x1024 s) q = x1 q >>> s := if_pos hs
  have e2 : z q = (shli x1 (broadcast S216x1024 r) q ||| shrui x1 (broadcast S216x1024 s) q) ^^^ y q := by rw [ez]; rfl
  have e1 : y q = x0 q + x1 q := by rw [ey]; rfl
  rw [e2, e3, e4, e1, BitVec.xor_comm]; rfl

/-- A column read at a row and a lane. -/
theorem column (a : C) (r : Fin 216) (l : Fin 1024) (h : S216x1.Broadcasts S216x1024) :
    broadcastTo S216x1024 a h (ix2 r l) = a (ix2 r 0) := by
  pointwise

/-- One key injection of the kernel at an index, the round counter being part of the second column. -/
theorem add_key (r : Fin 216) (l : Fin 1024) {x0 x1 y z : T} {a b : C} {k k' t : BitVec 32} {h h' : S216x1.Broadcasts S216x1024}
    (ha : a (ix2 r 0) = k) (hb : b (ix2 r 0) = k' + t) (ey : y = addi x0 (broadcastTo S216x1024 a h))
    (ez : z = addi x1 (broadcastTo S216x1024 b h')) {p : BitVec 32 × BitVec 32} (hp : (x0 (ix2 r l), x1 (ix2 r l)) = p) :
    (y (ix2 r l), z (ix2 r l)) = inject k k' t p := by
  subst hp
  have e1 : y (ix2 r l) = x0 (ix2 r l) + k := by
    rw [ey, ← ha, ← column a r l h]; rfl
  have e2 : z (ix2 r l) = x1 (ix2 r l) + (k' + t) := by
    rw [ez, ← hb, ← column b r l h']; rfl
  rw [e1, e2, ← BitVec.add_assoc]; rfl

/-- A column of the table of keys. -/
theorem ld_col (t : K) (n : ℕ) (inb : ∀ a, (![0, n] : Fin 2 → ℕ) a + S216x1.size a ≤ S216x9.size a) (r : Fin 216) (hn : n < 9) :
    View.ld (Val := Elt Ideal) (e' := .i32) t (Rect.unit (s := S216x9) ![0, n] S216x1.size inb) (ix2 r 0) = t (ix2 r ⟨n, hn⟩) := by
  refine (View.ld_apply (Val := Elt Ideal) (e := .i32) t (Rect.unit (s := S216x9) ![0, n] S216x1.size inb) (ix2 r 0)).trans (congrArg t ?_)
  funext a
  fin_cases a <;> exact Fin.ext (by simp [ix2])

section

variable (i : grid0.Coords) (r : Fin 216) (l : Fin 1024)

/-- The counter of a lane. -/
def count : BitVec 32 := 6#32 * (BitVec.ofNat 32 l + BitVec.ofNat 32 (i 0) * 1024#32)

theorem start (a b : C) {k : BitVec 32 × BitVec 32} {c : BitVec 32} (ha : a (ix2 r 0) = k.1) (hb : b (ix2 r 0) = k.2 + c) :
    (k0_pay5 (F := Ideal) i a b (ix2 r l), k0_pay8 (k0_pay5 (F := Ideal) i a b) (k0_pay6 (F := Ideal) i a b) (k0_pay7 (F := Ideal) i a b) (ix2 r l))
      = Threefry.mix 15#32 17#32 (Threefry.mix 13#32 19#32 (0#32 + k.1, count i l + c + k.2)) := by
  refine round _ (x0 := k0_pay3 (F := Ideal) i a b) (x1 := k0_pay4 (F := Ideal) i a b) 15#32 17#32 rfl rfl ?_
  refine round _ (x1 := k0_pay2 (F := Ideal) i b) 13#32 19#32 rfl rfl ?_
  have e : k0_pay2 (F := Ideal) i b (ix2 r l) = b (ix2 r 0) + count i l := by
    pointwise [k0_pay2, count]
    rfl
  refine Prod.ext ?_ ?_
  · show broadcastTo S216x1024 (shapeCast S216x1 a shapeCasts_S216x1_S216x1) broadcasts_S216x1_S216x1024 (ix2 r l) + 0#32 = 0#32 + k.1
    rw [shapeCast_self, column, ha, BitVec.add_comm]

  · show k0_pay2 (F := Ideal) i b (ix2 r l) = _
    rw [e, hb]
    ac_rfl

variable (c0 c1 c2 c3 c4 c5 c6 c7 c8 : C) {k : BitVec 32 × BitVec 32} {c : BitVec 32}

/-- The second group of rounds: one injection, then four rounds. -/
theorem group2 (x y z : T) {p : BitVec 32 × BitVec 32} (h1 : c1 (ix2 r 0) = k.2) (h3 : c3 (ix2 r 0) = third k.1 k.2 + 1#32)
    (hp : (x (ix2 r l), k0_pay8 x y z (ix2 r l)) = p) :
    (k0_pay19 (F := Ideal) c1 c3 x y z (ix2 r l), k0_pay20 (F := Ideal) c1 c3 x y z (ix2 r l))
      = odd4 (inject k.2 (third k.1 k.2) 1#32 (Threefry.mix 6#32 26#32 (Threefry.mix 26#32 6#32 p))) := by
  refine round _ (x0 := k0_pay17 (F := Ideal) c1 c3 x y z) (x1 := k0_pay18 (F := Ideal) c1 c3 x y z) 24#32 8#32 rfl rfl ?_
  refine round _ (x0 := k0_pay15 (F := Ideal) c1 c3 x y z) (x1 := k0_pay16 (F := Ideal) c1 c3 x y z) 16#32 16#32 rfl rfl ?_
  refine round _ (x0 := k0_pay13 (F := Ideal) c1 c3 x y z) (x1 := k0_pay14 (F := Ideal) c1 c3 x y z) 29#32 3#32 rfl rfl ?_
  refine round _ (x1 := k0_pay12 (F := Ideal) c3 x y z) 17#32 15#32 rfl rfl ?_
  refine add_key r l h1 h3 rfl rfl ?_
  refine round _ (x0 := k0_pay9 x y z) (x1 := k0_pay10 x y z) 6#32 26#32 rfl rfl ?_
  exact round _ (x0 := x) (x1 := k0_pay8 x y z) 26#32 6#32 rfl rfl hp

/-- The third group of rounds, and the first two of the fourth. -/
theorem group3 (x y : T) {p : BitVec 32 × BitVec 32} (h0 : c0 (ix2 r 0) = k.1) (h2 : c2 (ix2 r 0) = third k.1 k.2)
    (h4 : c4 (ix2 r 0) = k.1 + 2#32) (h5 : c5 (ix2 r 0) = k.2 + 3#32) (hp : (x (ix2 r l), y (ix2 r l)) = p) :
    (k0_pay32 (F := Ideal) c0 c2 c4 c5 x y (ix2 r l),
      k0_pay35 (k0_pay32 (F := Ideal) c0 c2 c4 c5 x y) (k0_pay33 (F := Ideal) c0 c2 c4 c5 x y) (k0_pay34 (F := Ideal) c0 c2 c4 c5 x y) (ix2 r l))
      = Threefry.mix 29#32 3#32 (Threefry.mix 17#32 15#32 (inject k.1 k.2 3#32 (even4 (inject (third k.1 k.2) k.1 2#32 p)))) := by
  refine round _ (x0 := k0_pay30 (F := Ideal) c0 c2 c4 c5 x y) (x1 := k0_pay31 (F := Ideal) c0 c2 c4 c5 x y) 29#32 3#32 rfl rfl ?_
  refine round _ (x1 := k0_pay29 (F := Ideal) c2 c4 c5 x y) 17#32 15#32 rfl rfl ?_
  refine add_key r l h0 h5 rfl rfl ?_
  refine round _ (x0 := k0_pay26 (F := Ideal) c2 c4 x y) (x1 := k0_pay27 (F := Ideal) c2 c4 x y) 6#32 26#32 rfl rfl ?_
  refine round _ (x0 := k0_pay24 (F := Ideal) c2 c4 x y) (x1 := k0_pay25 (F := Ideal) c2 c4 x y) 26#32 6#32 rfl rfl ?_
  refine round _ (x0 := k0_pay22 (F := Ideal) c2 c4 x y) (x1 := k0_pay23 (F := Ideal) c2 c4 x y) 15#32 17#32 rfl rfl ?_
  refine round _ (x1 := k0_pay21 (F := Ideal) c4 y) 13#32 19#32 rfl rfl ?_
  exact add_key r l h2 h4 rfl rfl hp

/-- The rest of the fourth group, and the fifth. -/
theorem group5 (x y z : T) {p : BitVec 32 × BitVec 32} (h1 : c1 (ix2 r 0) = k.2) (h6 : c6 (ix2 r 0) = third k.1 k.2 + 4#32)
    (hp : (x (ix2 r l), k0_pay35 x y z (ix2 r l)) = p) :
    (k0_pay46 (F := Ideal) c1 c6 x y z (ix2 r l), k0_pay47 (F := Ideal) c1 c6 x y z (ix2 r l))
      = even4 (inject k.2 (third k.1 k.2) 4#32 (Threefry.mix 24#32 8#32 (Threefry.mix 16#32 16#32 p))) := by
  refine round _ (x0 := k0_pay44 (F := Ideal) c1 c6 x y z) (x1 := k0_pay45 (F := Ideal) c1 c6 x y z) 6#32 26#32 rfl rfl ?_
  refine round _ (x0 := k0_pay42 (F := Ideal) c1 c6 x y z) (x1 := k0_pay43 (F := Ideal) c1 c6 x y z) 26#32 6#32 rfl rfl ?_
  refine round _ (x0 := k0_pay40 (F := Ideal) c1 c6 x y z) (x1 := k0_pay41 (F := Ideal) c1 c6 x y z) 15#32 17#32 rfl rfl ?_
  refine round _ (x1 := k0_pay39 (F := Ideal) c6 x y z) 13#32 19#32 rfl rfl ?_
  refine add_key r l h1 h6 rfl rfl ?_
  refine round _ (x0 := k0_pay36 x y z) (x1 := k0_pay37 x y z) 24#32 8#32 rfl rfl ?_
  exact round _ (x0 := x) (x1 := k0_pay35 x y z) 16#32 16#32 rfl rfl hp

/-- The last injection, and the noise the word stands for. -/
theorem noise_of (x y : T) {p : BitVec 32 × BitVec 32} (h2 : c2 (ix2 r 0) = third k.1 k.2) (h7 : c7 (ix2 r 0) = k.1 + 5#32)
    (hp : (x (ix2 r l), y (ix2 r l)) = p) :
    k0_pay48 (F := Ideal) c2 c7 x y (ix2 r l)
      = gumbel ((inject (third k.1 k.2) k.1 5#32 p).1 ^^^ (inject (third k.1 k.2) k.1 5#32 p).2) := by
  have e := add_key r l (b := c7) h2 h7 (h := broadcasts_S216x1_S216x1024) (h' := broadcasts_S216x1_S216x1024) rfl rfl hp
  rw [← e]
  generalize ha : addi x (broadcastTo S216x1024 c2 broadcasts_S216x1_S216x1024) = a
  generalize hb : addi y (broadcastTo S216x1024 c7 broadcasts_S216x1_S216x1024) = b
  unfold k0_pay48
  simp only [ha, hb]
  unfold gumbel
  pointwise
  rw [zero_sub, zero_sub]
  rfl

/-- The noise table at a row whose nine words are those of a key and an action. -/
theorem table_apply (t : K) {k : BitVec 32 × BitVec 32} {c : BitVec 32} (h0 : t (ix2 r 0) = k.1) (h1 : t (ix2 r 1) = k.2)
    (h2 : t (ix2 r 2) = third k.1 k.2) (h3 : t (ix2 r 3) = third k.1 k.2 + 1#32) (h4 : t (ix2 r 4) = k.1 + 2#32)
    (h5 : t (ix2 r 5) = k.2 + 3#32) (h6 : t (ix2 r 6) = third k.1 k.2 + 4#32) (h7 : t (ix2 r 7) = k.1 + 5#32)
    (h8 : t (ix2 r 8) = k.2 + c) :
    table i t (ix2 r l)
      = gumbel ((block k.1 k.2 0#32 (count i l + c)).1 ^^^ (block k.1 k.2 0#32 (count i l + c)).2) := by
  unfold table
  dsimp only
  refine noise_of r l _ _ _ _ (k := k) ((ld_col t 2 _ r (by omega)).trans h2) ((ld_col t 7 _ r (by omega)).trans h7) ?_
  refine group5 r l _ _ _ _ _ (k := k) ((ld_col t 1 _ r (by omega)).trans h1) ((ld_col t 6 _ r (by omega)).trans h6) ?_
  refine group3 r l _ _ _ _ _ _ (k := k) ((ld_col t 0 _ r (by omega)).trans h0) ((ld_col t 2 _ r (by omega)).trans h2) ((ld_col t 4 _ r (by omega)).trans h4) ((ld_col t 5 _ r (by omega)).trans h5) ?_
  refine group2 r l _ _ _ _ _ (k := k) ((ld_col t 1 _ r (by omega)).trans h1) ((ld_col t 3 _ r (by omega)).trans h3) ?_
  exact start i r l _ _ ((ld_col t 0 _ r (by omega)).trans h0) ((ld_col t 8 _ r (by omega)).trans h8)

end

end Cert.KerHash
-- ==== Proof.KerOps.lean ====
/- The kernel's distributions and weights at an index. -/
module

public import proofs.«01_k».proof.Proof.KerHash

@[expose] public section

set_option maxRecDepth 16384

noncomputable section

namespace Cert.KerOps

open Idealize.ShloMosaic Idealize.ShloMosaic.TcCoe Cert.KernelIdeal Cert.KernelIdeal.Gen Cert.Spec Cert.KerBody

/-! ## The opponents' distributions -/

/-- An opponent's logits at a row of the block. -/
def score (x : V S1024x256) (w : V S6x256) (b : V S1x6) (l : Fin 1024) (c : Fin 6) : EReal :=
  ∑ k : Fin 256, x (ix2 l k) * w (ix2 c k) + b (ix2 0 c)

theorem bias1 (b : V S1x6) (c : Fin 6) : k0_pay50 b (ix2 c 0) = b (ix2 0 c) := by
  unfold k0_pay50
  rw [shapeCast_self]
  pointwise
  fin_cases c <;> rfl

theorem scores1 (x : V S1024x256) (w : V S6x256) (b : V S1x6) (c : Fin 6) (l : Fin 1024) :
    k0_pay55 (F := Ideal) x (k0_pay50 b) w (ix2 c l) = score x w b l c := by
  have hb := bias1 b c
  generalize k0_pay50 (F := Ideal) b = e at hb ⊢
  pointwise [k0_pay55]
  rw [hb]
  simp only [score, mul_comm]

theorem scores2 (x : V S1024x256) (w : V S6x256) (b : V S1x6) (c : Fin 6) (l : Fin 1024) :
    k0_pay57 (F := Ideal) x (k0_pay51 b) (k0_pay52 b) (k0_pay53 b) (k0_pay54 b) w (ix2 c l) = score x w b l c := by
  pointwise [k0_pay57, k0_pay51, k0_pay52, k0_pay53, k0_pay54]
  unfold score
  congr 1
  · exact Finset.sum_congr rfl fun k _ => mul_comm _ _
  · fin_cases c <;> rfl

theorem logs1_apply (x : V S1024x256) (w : V S6x256) (b : V S1x6) (c : Fin 6) (l : Fin 1024) :
    logs1 x w b (ix2 c l) = Ideal.log (smx (score x w b l) c) := by
  unfold logs1 k0_pay56
  have e := fun c => scores1 x w b c l
  generalize k0_pay55 (F := Ideal) x (k0_pay50 b) w = z at e ⊢
  pointwise
  rw [show Ideal.ofBits .f32 0xFF800000#32 = negInf from rfl]
  simp only [e]
  rfl

theorem logs2_apply (x : V S1024x256) (w : V S6x256) (b : V S1x6) (c : Fin 6) (l : Fin 1024) :
    logs2 x w b (ix2 c l) = Ideal.log (smx (score x w b l) c) := by
  unfold logs2 k0_pay58
  have e := fun c => scores2 x w b c l
  generalize k0_pay57 (F := Ideal) x (k0_pay51 b) (k0_pay52 b) (k0_pay53 b) (k0_pay54 b) w = z at e ⊢
  pointwise
  rw [show Ideal.ofBits .f32 0xFF800000#32 = negInf from rfl]
  simp only [e]
  rfl

theorem row1_apply (x : V S1024x256) (w : V S6x256) (b : V S1x6) (l : Fin 8) :
    row1 x w b (ix2 0 l) = smx (score x w b ⟨l, by omega⟩) 0 := by
  unfold row1 k0_pay59
  have e := fun c => scores1 x w b c ⟨l, by omega⟩
  generalize k0_pay55 (F := Ideal) x (k0_pay50 b) w = z at e ⊢
  pointwise
  rw [show Ideal.ofBits .f32 0xFF800000#32 = negInf from rfl]
  simp only [e]
  rfl

theorem row2_apply (x : V S1024x256) (w : V S6x256) (b : V S1x6) (l : Fin 8) :
    row2 x w b (ix2 0 l) = smx (score x w b ⟨l, by omega⟩) 0 := by
  unfold row2 k0_pay60
  have e := fun c => scores2 x w b c ⟨l, by omega⟩
  generalize k0_pay57 (F := Ideal) x (k0_pay51 b) (k0_pay52 b) (k0_pay53 b) (k0_pay54 b) w = z at e ⊢
  pointwise
  rw [show Ideal.ofBits .f32 0xFF800000#32 = negInf from rfl]
  simp only [e]
  rfl

/-! ## Actions as reals -/

/-- An action as the real the kernel keeps it as. -/
def code (k : Fin 6) : EReal := ((k.val : ℝ) : EReal)

theorem code_inj {j k : Fin 6} : code j = code k ↔ j = k := by
  unfold code
  rw [EReal.coe_eq_coe_iff, Nat.cast_inj, Fin.val_inj]

theorem code0 : (0 : EReal) = code 0 := by simp [code]
theorem code1 : (1 : EReal) = code 1 := by simp [code]
theorem code2 : Ideal.ofBits .f32 0x40000000#32 = code 2 := by
  simp [Ideal.ofBits, Ideal.ieee, code]
  rw [← EReal.coe_mul]
  norm_num
theorem code3 : Ideal.ofBits .f32 0x40400000#32 = code 3 := by
  simp [Ideal.ofBits, Ideal.ieee, code]
  rw [← EReal.coe_mul]
  norm_num
theorem code4 : Ideal.ofBits .f32 0x40800000#32 = code 4 := by
  simp [Ideal.ofBits, Ideal.ieee, code]
  rw [← EReal.coe_mul]
  norm_num
theorem code5 : Ideal.ofBits .f32 0x40A00000#32 = code 5 := by
  simp [Ideal.ofBits, Ideal.ieee, code]
  rw [← EReal.coe_mul]
  norm_num

/-- A comparison of an action with a number, turned into a real. -/
theorem hot {a m : EReal} {k j : Fin 6} (ha : a = code k) (hm : m = code j) :
    FloatOps.sitofp (F := Ideal) .f32 (BitVec.setWidth 32 (BitVec.ofBool (decide (a = m)))) = if k = j then (1 : EReal) else 0 := by
  subst ha hm
  simp only [code_inj]
  by_cases h : k = j <;> simp [h] <;> norm_num [FloatOps.sitofp]

theorem weigh1_apply (t : V S1x8) (a : V S18x1024) (s : Fin 18) (l : Fin 1024) {k : Fin 6} (ha : a (ix2 s l) = code k) :
    weigh1 t a (ix2 s l) = t (ix2 0 ⟨k, by omega⟩) := by
  pointwise [weigh1, k0_pay100, k0_pay87, k0_pay83, k0_pay70, k0_pay69, k0_pay82, k0_pay99, k0_pay75, k0_pay86, k0_pay92]
  rw [hot ha code0, hot ha code1, hot ha code2, hot ha code3, hot ha code4, hot ha code5]
  clear ha
  fin_cases k <;> simp <;> rfl

theorem weigh2_apply (t : V S1x8) (a : V S18x1024) (s : Fin 18) (l : Fin 1024) {k : Fin 6} (ha : a (ix2 s l) = code k) :
    weigh2 t a (ix2 s l) = t (ix2 0 ⟨k, by omega⟩) := by
  pointwise [weigh2, k0_pay137, k0_pay123, k0_pay118, k0_pay104, k0_pay103, k0_pay110, k0_pay117, k0_pay122, k0_pay129, k0_pay136]
  rw [hot ha code0, hot ha code1, hot ha code2, hot ha code3, hot ha code4, hot ha code5]
  clear ha
  fin_cases k <;> simp <;> rfl

/-! ## The agent's logits -/

/-- One of the agent's logits, the second opponent's last action left out. -/
def part (w : V S6x268) (a c : V S18x1024) (y : V S6x1024) (b : V S1x6) (j : Fin 6) (s : Fin 18) (l : Fin 1024) : EReal :=
  y (ix2 j l) + b (ix2 0 j) + k0_pay69 a (ix2 s l) * w (ix2 j 256) + k0_pay75 a (ix2 s l) * w (ix2 j 257)
    + k0_pay82 a (ix2 s l) * w (ix2 j 258) + k0_pay86 a (ix2 s l) * w (ix2 j 259) + k0_pay92 a (ix2 s l) * w (ix2 j 260)
    + k0_pay99 a (ix2 s l) * w (ix2 j 261) + k0_pay103 c (ix2 s l) * w (ix2 j 262) + k0_pay110 c (ix2 s l) * w (ix2 j 263)
    + k0_pay117 c (ix2 s l) * w (ix2 j 264) + k0_pay122 c (ix2 s l) * w (ix2 j 265) + k0_pay129 c (ix2 s l) * w (ix2 j 266)

section

variable (w : V S6x268) (a c : V S18x1024) (y : V S6x1024) (b : V S1x6) (s : Fin 18) (l : Fin 1024)

theorem logit0_apply : logit0 w a c y b (ix2 s l) = part w a c y b 0 s l := by
  pointwise [logit0, k0_pay130, k0_pay124, k0_pay111, k0_pay105, k0_pay93, k0_pay88, k0_pay76, k0_pay71, k0_pay66, k0_pay119]
  rfl

theorem logit1_apply : logit1 w a c y b (ix2 s l) = part w a c y b 1 s l := by
  pointwise [logit1, k0_pay131, k0_pay125, k0_pay112, k0_pay106, k0_pay94, k0_pay89, k0_pay77, k0_pay72, k0_pay66]
  rfl

theorem logit2_apply : logit2 w a c y b (ix2 s l) = part w a c y b 2 s l := by
  pointwise [logit2, k0_pay132, k0_pay126, k0_pay113, k0_pay107, k0_pay95, k0_pay90, k0_pay78, k0_pay73, k0_pay66]
  rfl

theorem logit3_apply : logit3 w a c y b (ix2 s l) = part w a c y b 3 s l := by
  pointwise [logit3, k0_pay133, k0_pay127, k0_pay114, k0_pay108, k0_pay96, k0_pay91, k0_pay79, k0_pay74, k0_pay66]
  rfl

theorem logit4_apply : logit4 w a c y b (ix2 s l) = part w a c y b 4 s l := by
  pointwise [logit4, k0_pay134, k0_pay120, k0_pay115, k0_pay101, k0_pay97, k0_pay84, k0_pay80, k0_pay67, k0_pay66, k0_pay109, k0_pay128]
  rfl

theorem logit5_apply : logit5 w a c y b (ix2 s l) = part w a c y b 5 s l := by
  pointwise [logit5, k0_pay135, k0_pay121, k0_pay116, k0_pay102, k0_pay98, k0_pay85, k0_pay81, k0_pay68, k0_pay66]
  rfl

end

/-- The logit of the sampled actions: the row's part and the two actions' weights. -/
theorem part_eq (w : V S6x268) (a c : V S18x1024) (y : V S6x1024) (b : V S1x6) (j : Fin 6) (s : Fin 18) (l : Fin 1024)
    {p q : Fin 6} (ha : a (ix2 s l) = code p) (hc : c (ix2 s l) = code q) :
    part w a c y b j s l + k0_pay136 c (ix2 s l) * w (ix2 j 267)
      = (y (ix2 j l) + (w (ix2 j ⟨256 + p, by omega⟩) + w (ix2 j ⟨262 + q, by omega⟩))) + b (ix2 0 j) := by
  unfold part
  pointwise [k0_pay69, k0_pay75, k0_pay82, k0_pay86, k0_pay92, k0_pay99, k0_pay103, k0_pay110, k0_pay117, k0_pay122, k0_pay129, k0_pay136]
  rw [hot ha code0, hot ha code1, hot ha code2, hot ha code3, hot ha code4, hot ha code5,
    hot hc code0, hot hc code1, hot hc code2, hot hc code3, hot hc code4, hot hc code5]
  have e : y (ix2 j l) + (w (ix2 j ⟨256 + p, by omega⟩) + w (ix2 j ⟨262 + q, by omega⟩)) + b (ix2 0 j)
      = y (ix2 j l) + b (ix2 0 j) + w (ix2 j ⟨256 + p, by omega⟩) + w (ix2 j ⟨262 + q, by omega⟩) := by
    rw [add_right_comm, ← add_assoc]
  rw [e]
  clear ha hc e
  have h1 : ∀ z : EReal, z + (if p = 0 then (1 : EReal) else 0) * w (ix2 j 256) + (if p = 1 then (1 : EReal) else 0) * w (ix2 j 257)
      + (if p = 2 then (1 : EReal) else 0) * w (ix2 j 258) + (if p = 3 then (1 : EReal) else 0) * w (ix2 j 259)
      + (if p = 4 then (1 : EReal) else 0) * w (ix2 j 260) + (if p = 5 then (1 : EReal) else 0) * w (ix2 j 261)
      = z + w (ix2 j ⟨256 + p, by omega⟩) := fun z => by
    fin_cases p <;> simp <;> rfl
  have h2 : ∀ z : EReal, z + (if q = 0 then (1 : EReal) else 0) * w (ix2 j 262) + (if q = 1 then (1 : EReal) else 0) * w (ix2 j 263)
      + (if q = 2 then (1 : EReal) else 0) * w (ix2 j 264) + (if q = 3 then (1 : EReal) else 0) * w (ix2 j 265)
      + (if q = 4 then (1 : EReal) else 0) * w (ix2 j 266) + (if q = 5 then (1 : EReal) else 0) * w (ix2 j 267)
      = z + w (ix2 j ⟨262 + q, by omega⟩) := fun z => by
    fin_cases q <;> simp <;> rfl
  rw [h1, h2]

end Cert.KerOps
-- ==== Proof.KerPick.lean ====
/- The kernel's sampled actions and its means at an index. -/
module

public import proofs.«01_k».proof.Proof.KerOps

@[expose] public section

set_option maxRecDepth 16384

noncomputable section

namespace Cert.KerOps

open Idealize.ShloMosaic Idealize.ShloMosaic.TcCoe Cert.KernelIdeal Cert.KernelIdeal.Gen Cert.Spec Cert.KerBody

/-! ## The sampled actions -/

/-- The larger of two values, the first unless the second is strictly larger. -/
def up (m x : EReal) : EReal := if m < x then x else m

/-- `k` is the first place of the largest value among those up to `n`. -/
def Upto (v : Fin 6 → EReal) (n k : Fin 6) : Prop := k ≤ n ∧ ∀ c, c ≤ n → v c ≤ v k ∧ (v c = v k → k ≤ c)

/-- The place kept once a further value is seen. -/
def nxt (v : Fin 6 → EReal) (n k : Fin 6) : Fin 6 := if v k < v n then n else k

theorem up_nxt (v : Fin 6 → EReal) (n k : Fin 6) : up (v k) (v n) = v (nxt v n k) := (apply_ite v _ _ _).symm

theorem code_nxt (v : Fin 6 → EReal) (n k : Fin 6) : (if v k < v n then code n else code k) = code (nxt v n k) :=
  (apply_ite code _ _ _).symm

theorem Upto.next {v : Fin 6 → EReal} {n k : Fin 6} (h : Upto v n k) {m : Fin 6} (hm : m.val = n.val + 1) : Upto v m (nxt v m k) := by
  obtain ⟨hk, h⟩ := h
  have hs : ∀ c : Fin 6, c ≤ m → c ≤ n ∨ c = m := fun c hc => by
    rcases Nat.lt_or_ge n.val c.val with h | h
    · exact .inr (Fin.ext (Nat.le_antisymm hc (by omega)))
    · exact .inl h
  have hnm : n ≤ m := Fin.le_def.mpr (by omega)
  unfold nxt
  split
  · rename_i hv
    refine ⟨le_rfl, fun c hc => ?_⟩
    rcases hs c hc with hc | rfl
    · have := (h c hc).1.trans_lt hv
      exact ⟨this.le, fun e => absurd e this.ne⟩
    · exact ⟨le_rfl, fun _ => le_rfl⟩
  · rename_i hv
    refine ⟨hk.trans hnm, fun c hc => ?_⟩
    rcases hs c hc with hc | rfl
    · exact h c hc
    · exact ⟨not_lt.mp hv, fun _ => hk.trans hnm⟩

/-- The chain of comparisons keeps the first place of the largest value. -/
theorem chain (v : Fin 6 → EReal) :
    (if up (up (up (up (v 0) (v 1)) (v 2)) (v 3)) (v 4) < v 5 then code 5
      else if up (up (up (v 0) (v 1)) (v 2)) (v 3) < v 4 then code 4
      else if up (up (v 0) (v 1)) (v 2) < v 3 then code 3
      else if up (v 0) (v 1) < v 2 then code 2
      else if v 0 < v 1 then code 1 else code 0) = code (pick v) := by
  simp only [up_nxt, code_nxt]
  have h0 : Upto v 0 0 := ⟨le_rfl, fun c hc => by
    obtain rfl : c = 0 := Fin.ext (Nat.le_zero.mp hc)
    exact ⟨le_rfl, fun _ => le_rfl⟩⟩
  have h5 := ((((h0.next (m := 1) rfl).next (m := 2) rfl).next (m := 3) rfl).next (m := 4) rfl).next (m := 5) rfl
  exact congrArg code (pick_eq fun c => h5.2 c (Fin.le_last c)).symm

/-- Eighteen rows of the noise table from a row on. -/
theorem ld_rows (g : V S216x1024) (n : Nat) (inb) (s : Fin 18) (l : Fin 1024) (h : n + s.val < 216) :
    View.ld (Val := Elt Ideal) (e' := .f32) g (Rect.unit (s := S216x1024) ![n, 0] S18x1024.size inb) (ix2 s l) = g (ix2 ⟨n + s, h⟩ l) := by
  refine (View.ld_apply (Val := Elt Ideal) (e := .f32) g (Rect.unit (s := S216x1024) ![n, 0] S18x1024.size inb) (ix2 s l)).trans
    (congrArg g ?_)
  funext a
  fin_cases a <;> exact Fin.ext (by simp [ix2])

theorem choice1_apply (x : V S1024x256) (w : V S6x256) (b : V S1x6) (g : V S216x1024) (s : Fin 18) (l : Fin 1024) :
    choice1 x w b g (ix2 s l)
      = code (pick fun c => g (ix2 ⟨18 * c + s, by omega⟩ l) + Ideal.log (smx (score x w b l) c)) := by
  have e : k0_pay56 (F := Ideal) x (k0_pay50 (F := Ideal) b) w = logs1 x w b := rfl
  have hz := fun c => logs1_apply x w b c l
  unfold choice1 k0_pay61
  rw [e]
  generalize logs1 x w b = z at hz ⊢
  have r0 := ld_rows g 0 inb_S216x1024_S18x1024_0_0 s l (by omega)
  have r1 := ld_rows g 18 inb_S216x1024_S18x1024_18_0 s l (by omega)
  have r2 := ld_rows g 36 inb_S216x1024_S18x1024_36_0 s l (by omega)
  have r3 := ld_rows g 54 inb_S216x1024_S18x1024_54_0 s l (by omega)
  have r4 := ld_rows g 72 inb_S216x1024_S18x1024_72_0 s l (by omega)
  have r5 := ld_rows g 90 inb_S216x1024_S18x1024_90_0 s l (by omega)
  generalize View.ld (Val := Elt Ideal) (e' := .f32) g _ = g0 at r0 ⊢
  generalize View.ld (Val := Elt Ideal) (e' := .f32) g _ = g1 at r1 ⊢
  generalize View.ld (Val := Elt Ideal) (e' := .f32) g _ = g2 at r2 ⊢
  generalize View.ld (Val := Elt Ideal) (e' := .f32) g _ = g3 at r3 ⊢
  generalize View.ld (Val := Elt Ideal) (e' := .f32) g _ = g4 at r4 ⊢
  generalize View.ld (Val := Elt Ideal) (e' := .f32) g _ = g5 at r5 ⊢
  pointwise [k0_pay62]
  rw [hz, hz, hz, hz, hz, hz, r0, r1, r2, r3, r4, r5]
  rw [← chain, ← code0, ← code1, ← code2, ← code3, ← code4, ← code5]
  simp only [add_comm (Ideal.log _)]
  rfl

theorem choice2_apply (x : V S1024x256) (w : V S6x256) (b : V S1x6) (g : V S216x1024) (s : Fin 18) (l : Fin 1024) :
    choice2 x w b g (ix2 s l)
      = code (pick fun c => g (ix2 ⟨108 + 18 * c + s, by omega⟩ l) + Ideal.log (smx (score x w b l) c)) := by
  have hz := fun c => logs2_apply x w b c l
  unfold choice2
  generalize logs2 x w b = z at hz ⊢
  have r0 := ld_rows g 108 inb_S216x1024_S18x1024_108_0 s l (by omega)
  have r1 := ld_rows g 126 inb_S216x1024_S18x1024_126_0 s l (by omega)
  have r2 := ld_rows g 144 inb_S216x1024_S18x1024_144_0 s l (by omega)
  have r3 := ld_rows g 162 inb_S216x1024_S18x1024_162_0 s l (by omega)
  have r4 := ld_rows g 180 inb_S216x1024_S18x1024_180_0 s l (by omega)
  have r5 := ld_rows g 198 inb_S216x1024_S18x1024_198_0 s l (by omega)
  generalize View.ld (Val := Elt Ideal) (e' := .f32) g _ = g0 at r0 ⊢
  generalize View.ld (Val := Elt Ideal) (e' := .f32) g _ = g1 at r1 ⊢
  generalize View.ld (Val := Elt Ideal) (e' := .f32) g _ = g2 at r2 ⊢
  generalize View.ld (Val := Elt Ideal) (e' := .f32) g _ = g3 at r3 ⊢
  generalize View.ld (Val := Elt Ideal) (e' := .f32) g _ = g4 at r4 ⊢
  generalize View.ld (Val := Elt Ideal) (e' := .f32) g _ = g5 at r5 ⊢
  pointwise [k0_pay64, k0_pay63]
  rw [hz, hz, hz, hz, hz, hz, r0, r1, r2, r3, r4, r5]
  rw [← chain, ← code0, ← code1, ← code2, ← code3, ← code4, ← code5]
  simp only [add_comm (Ideal.log _)]
  rfl

/-! ## The means -/

section

variable (w : V S6x268) (c l0 l1 l2 l3 l4 l5 : V S18x1024) (l : Fin 1024)

/-- The logits at a lane, the second opponent's last action added. -/
def Are (v : Fin 18 → Fin 6 → EReal) : Prop :=
  ∀ s, l0 (ix2 s l) + k0_pay136 c (ix2 s l) * w (ix2 0 267) = v s 0
    ∧ l1 (ix2 s l) + k0_pay136 c (ix2 s l) * w (ix2 1 267) = v s 1
    ∧ l2 (ix2 s l) + k0_pay136 c (ix2 s l) * w (ix2 2 267) = v s 2
    ∧ l3 (ix2 s l) + k0_pay136 c (ix2 s l) * w (ix2 3 267) = v s 3
    ∧ l4 (ix2 s l) + k0_pay136 c (ix2 s l) * w (ix2 4 267) = v s 4
    ∧ l5 (ix2 s l) + k0_pay136 c (ix2 s l) * w (ix2 5 267) = v s 5

variable {w c l0 l1 l2 l3 l4 l5 l} {v : Fin 18 → Fin 6 → EReal} (h : Are w c l0 l1 l2 l3 l4 l5 l v) (s : Fin 18)

include h

theorem largest : k0_pay145 (F := Ideal) w l0 l1 l2 l3 l4 l5 (k0_pay136 (F := Ideal) c) (k0_pay138 (F := Ideal) w) (ix2 s l) = top6 (v s) := by
  obtain ⟨h0, h1, h2, h3, h4, h5⟩ := h s
  generalize k0_pay136 (F := Ideal) c = m at *
  pointwise [k0_pay145, k0_pay138, k0_pay139, k0_pay140, k0_pay141, k0_pay142, k0_pay143, k0_pay144]
  rw [h0, h1, h2, h3, h4, h5, top6_eq]

/-- The exponential of a logit, lessened by the largest. -/
def rise (v : Fin 6 → EReal) (j : Fin 6) : EReal := Ideal.exp (v j - top6 v)

theorem rise0 : k0_pay146 (F := Ideal) w l0 l1 l2 l3 l4 l5 (k0_pay136 (F := Ideal) c) (k0_pay138 (F := Ideal) w) (ix2 s l) = rise (v s) 0 := by
  obtain ⟨h0, -⟩ := h s
  have e := largest h s
  unfold k0_pay146
  generalize k0_pay145 (F := Ideal) w l0 l1 l2 l3 l4 l5 (k0_pay136 (F := Ideal) c) (k0_pay138 (F := Ideal) w) = t at *
  generalize k0_pay136 (F := Ideal) c = m at *
  pointwise [k0_pay138, k0_pay139]
  rw [h0, e]
  rfl

theorem rise1 : k0_pay147 (F := Ideal) w l0 l1 l2 l3 l4 l5 (k0_pay136 (F := Ideal) c) (k0_pay138 (F := Ideal) w) (ix2 s l) = rise (v s) 1 := by
  obtain ⟨-, h0, -⟩ := h s
  have e := largest h s
  unfold k0_pay147
  generalize k0_pay145 (F := Ideal) w l0 l1 l2 l3 l4 l5 (k0_pay136 (F := Ideal) c) (k0_pay138 (F := Ideal) w) = t at *
  generalize k0_pay136 (F := Ideal) c = m at *
  pointwise [k0_pay140]
  rw [h0, e]
  rfl

theorem rise2 : k0_pay148 (F := Ideal) w l0 l1 l2 l3 l4 l5 (k0_pay136 (F := Ideal) c) (k0_pay138 (F := Ideal) w) (ix2 s l) = rise (v s) 2 := by
  obtain ⟨-, -, h0, -⟩ := h s
  have e := largest h s
  unfold k0_pay148
  generalize k0_pay145 (F := Ideal) w l0 l1 l2 l3 l4 l5 (k0_pay136 (F := Ideal) c) (k0_pay138 (F := Ideal) w) = t at *
  generalize k0_pay136 (F := Ideal) c = m at *
  pointwise [k0_pay141]
  rw [h0, e]
  rfl

theorem rise3 : k0_pay149 (F := Ideal) w l0 l1 l2 l3 l4 l5 (k0_pay136 (F := Ideal) c) (k0_pay138 (F := Ideal) w) (ix2 s l) = rise (v s) 3 := by
  obtain ⟨-, -, -, h0, -⟩ := h s
  have e := largest h s
  unfold k0_pay149
  generalize k0_pay145 (F := Ideal) w l0 l1 l2 l3 l4 l5 (k0_pay136 (F := Ideal) c) (k0_pay138 (F := Ideal) w) = t at *
  generalize k0_pay136 (F := Ideal) c = m at *
  pointwise [k0_pay142]
  rw [h0, e]
  rfl

theorem rise4 : k0_pay150 (F := Ideal) w l0 l1 l2 l3 l4 l5 (k0_pay136 (F := Ideal) c) (k0_pay138 (F := Ideal) w) (ix2 s l) = rise (v s) 4 := by
  obtain ⟨-, -, -, -, h0, -⟩ := h s
  have e := largest h s
  unfold k0_pay150
  generalize k0_pay145 (F := Ideal) w l0 l1 l2 l3 l4 l5 (k0_pay136 (F := Ideal) c) (k0_pay138 (F := Ideal) w) = t at *
  generalize k0_pay136 (F := Ideal) c = m at *
  pointwise [k0_pay143]
  rw [h0, e]
  rfl

theorem rise5 : k0_pay151 (F := Ideal) w l0 l1 l2 l3 l4 l5 (k0_pay136 (F := Ideal) c) (k0_pay138 (F := Ideal) w) (ix2 s l) = rise (v s) 5 := by
  obtain ⟨-, -, -, -, -, h0⟩ := h s
  have e := largest h s
  unfold k0_pay151
  generalize k0_pay145 (F := Ideal) w l0 l1 l2 l3 l4 l5 (k0_pay136 (F := Ideal) c) (k0_pay138 (F := Ideal) w) = t at *
  generalize k0_pay136 (F := Ideal) c = m at *
  pointwise [k0_pay144]
  rw [h0, e]
  rfl

variable (p q : V S18x1024)

theorem share : k0_pay153 (F := Ideal) w p l0 l1 l2 l3 l4 l5 (k0_pay136 (F := Ideal) c) q (k0_pay138 (F := Ideal) w) (ix2 s l)
    = Ideal.div (p (ix2 s l) * q (ix2 s l)) (∑ j, rise (v s) j) := by
  have e0 := rise0 h s
  have e1 := rise1 h s
  have e2 := rise2 h s
  have e3 := rise3 h s
  have e4 := rise4 h s
  have e5 := rise5 h s
  rw [Fin.sum_univ_six, ← e0, ← e1, ← e2, ← e3, ← e4, ← e5]
  unfold k0_pay153
  clear e0 e1 e2 e3 e4 e5 h
  generalize k0_pay146 (F := Ideal) w l0 l1 l2 l3 l4 l5 (k0_pay136 (F := Ideal) c) (k0_pay138 (F := Ideal) w) = r0
  generalize k0_pay147 (F := Ideal) w l0 l1 l2 l3 l4 l5 (k0_pay136 (F := Ideal) c) (k0_pay138 (F := Ideal) w) = r1
  generalize k0_pay148 (F := Ideal) w l0 l1 l2 l3 l4 l5 (k0_pay136 (F := Ideal) c) (k0_pay138 (F := Ideal) w) = r2
  generalize k0_pay149 (F := Ideal) w l0 l1 l2 l3 l4 l5 (k0_pay136 (F := Ideal) c) (k0_pay138 (F := Ideal) w) = r3
  generalize k0_pay150 (F := Ideal) w l0 l1 l2 l3 l4 l5 (k0_pay136 (F := Ideal) c) (k0_pay138 (F := Ideal) w) = r4
  generalize k0_pay151 (F := Ideal) w l0 l1 l2 l3 l4 l5 (k0_pay136 (F := Ideal) c) (k0_pay138 (F := Ideal) w) = r5
  pointwise [k0_pay152]

theorem mix_apply (j : Fin 6) :
    mix w c l0 l1 l2 l3 l4 l5 p q (ix2 l j)
      = Ideal.div (∑ s, Ideal.div (p (ix2 s l) * q (ix2 s l)) (∑ k, rise (v s) k) * rise (v s) j) (∑ s, p (ix2 s l) * q (ix2 s l)) := by
  have e0 := rise0 h
  have e1 := rise1 h
  have e2 := rise2 h
  have e3 := rise3 h
  have e4 := rise4 h
  have e5 := rise5 h
  have e := fun s => share h s p q
  simp only [← e]
  unfold mix k0_pay155
  clear h e
  generalize k0_pay153 (F := Ideal) w p l0 l1 l2 l3 l4 l5 (k0_pay136 (F := Ideal) c) q (k0_pay138 (F := Ideal) w) = u
  generalize k0_pay146 (F := Ideal) w l0 l1 l2 l3 l4 l5 (k0_pay136 (F := Ideal) c) (k0_pay138 (F := Ideal) w) = r0 at *
  generalize k0_pay147 (F := Ideal) w l0 l1 l2 l3 l4 l5 (k0_pay136 (F := Ideal) c) (k0_pay138 (F := Ideal) w) = r1 at *
  generalize k0_pay148 (F := Ideal) w l0 l1 l2 l3 l4 l5 (k0_pay136 (F := Ideal) c) (k0_pay138 (F := Ideal) w) = r2 at *
  generalize k0_pay149 (F := Ideal) w l0 l1 l2 l3 l4 l5 (k0_pay136 (F := Ideal) c) (k0_pay138 (F := Ideal) w) = r3 at *
  generalize k0_pay150 (F := Ideal) w l0 l1 l2 l3 l4 l5 (k0_pay136 (F := Ideal) c) (k0_pay138 (F := Ideal) w) = r4 at *
  generalize k0_pay151 (F := Ideal) w l0 l1 l2 l3 l4 l5 (k0_pay136 (F := Ideal) c) (k0_pay138 (F := Ideal) w) = r5 at *
  fin_cases j
  · simp only [show (⟨0, by omega⟩ : Fin 6) = 0 from rfl, ← e0]
    pointwise [k0_pay1, k0_pay152, k0_pay154]
  · pointwise [k0_pay1, k0_pay152, k0_pay154]
    simp only [e1]
  · pointwise [k0_pay1, k0_pay152, k0_pay154]
    simp only [e2]
  · pointwise [k0_pay1, k0_pay152, k0_pay154]
    simp only [e3]
  · pointwise [k0_pay1, k0_pay152, k0_pay154]
    simp only [e4]
  · pointwise [k0_pay1, k0_pay152, k0_pay154]
    simp only [e5]

end

end Cert.KerOps
-- ==== Proof.KerKeys.lean ====
/- The table of keys the kernel reads, and the noise it makes. -/
module

public import proofs.«01_k».proof.Proof.KerHash

@[expose] public section

set_option maxRecDepth 16384

noncomputable section

namespace Cert.KerKeys

open Idealize.ShloMosaic Idealize.ShloMosaic.TcCoe Cert.KernelIdeal Cert.KernelIdeal.Gen Cert.Spec Cert.KerBody Cert.KerHash Cert.Threefry

/-- The table of keys. -/
def keys : K := fun i => lit0 (S216x9.rowMajor i)

/-- The row of an opponent, an action and a sample. -/
def rowOf (o : Fin 2) (c : Fin 6) (s : Fin 18) : Fin 216 := ⟨108 * o + 18 * c + s, by omega⟩

/-- The nine words of a row: the sample's key, and what its rounds add, with the action in the last. -/
theorem keys_row : ∀ (o : Fin 2) (c : Fin 6) (s : Fin 18),
    (keys (ix2 (rowOf o c s) 0) = (key o s).1 ∧ keys (ix2 (rowOf o c s) 1) = (key o s).2
      ∧ keys (ix2 (rowOf o c s) 2) = third (key o s).1 (key o s).2) ∧ (keys (ix2 (rowOf o c s) 3) = third (key o s).1 (key o s).2 + 1#32
      ∧ keys (ix2 (rowOf o c s) 4) = (key o s).1 + 2#32 ∧ keys (ix2 (rowOf o c s) 5) = (key o s).2 + 3#32)
      ∧ keys (ix2 (rowOf o c s) 6) = third (key o s).1 (key o s).2 + 4#32
      ∧ keys (ix2 (rowOf o c s) 7) = (key o s).1 + 5#32 ∧ keys (ix2 (rowOf o c s) 8) = (key o s).2 + BitVec.ofNat 32 c := by
  decide +kernel

/-- The counter of a lane and an action. -/
theorem count_eq (i : grid0.Coords) (l : Fin 1024) (c : Fin 6) :
    count i l + BitVec.ofNat 32 c = BitVec.ofNat 32 (6 * (1024 * (i 0).val + l) + c) := by
  have h : (i 0).val < 4 := (i 0).isLt
  apply BitVec.eq_of_toNat_eq
  unfold KerHash.count
  simp only [BitVec.toNat_add, BitVec.toNat_mul, BitVec.toNat_ofNat]
  omega

/-- The noise of a row and a lane of a grid point is the noise of the row of the batch. -/
theorem table_noise (i : grid0.Coords) (o : Fin 2) (c : Fin 6) (s : Fin 18) (l : Fin 1024) (n : Fin 4096)
    (hn : n.val = 1024 * (i 0).val + l) : table i keys (ix2 (rowOf o c s) l) = noise o s n c := by
  obtain ⟨⟨h0, h1, h2⟩, ⟨h3, h4, h5⟩, h6, h7, h8⟩ := keys_row o c s
  refine (table_apply i (rowOf o c s) l keys (k := key o s) h0 h1 h2 h3 h4 h5 h6 h7 h8).trans ?_
  rw [count_eq, ← hn]
  rfl

end Cert.KerKeys
-- ==== Proof.KerBlocks.lean ====
/- The blocks a grid point reads, as parts of the arguments. -/
module

public import proofs.«01_k».proof.Proof.KerKeys
public import Idealize.ShloMosaic.Lib.Pipeline.ValueKit.Point
public import Idealize.ShloMosaic.Lib.Claim

@[expose] public section

set_option maxRecDepth 16384

noncomputable section

namespace Cert.KerBlocks

open Idealize.ShloMosaic Idealize.ShloMosaic.TcCoe Cert.KernelIdeal Cert.KernelIdeal.Gen Cert.Spec Cert.KerBody Cert.KerKeys

variable (m : (ℓ : Loc nD τ sig) → Buf (Elt Ideal) ℓ) (c : Dev nD) (t : Fin cfg0.N)

/-- The point's coordinate is its number. -/
theorem coord : ∀ t : Fin grid0.N, (grid0.coords t 0).val = t.val := by decide +kernel

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel

/-- The block of observations: 1024 rows. -/
theorem blk0 (l : Fin 1024) (k : Fin 256) (n : Fin 4096) (hn : n.val = 1024 * t.val + l) :
    (iblk m c 0 t : V S1024x256) (ix2 l k) = (m (c.tc.loc main_arg0) : V S4096x256) (ix2 n k) := by
  have h := idx0 t
  blk_ext! [iblk, V_main_arg0, h]

theorem blk2 (i : Fin 6) (k : Fin 256) : (iblk m c 2 t : V S6x256) (ix2 i k) = (m (c.tc.loc main_arg1) : V S6x256) (ix2 i k) := by
  have h := idx2 t
  blk_ext! [iblk, V_main_arg1, h]

theorem blk4 (i : Fin 6) (k : Fin 256) : (iblk m c 4 t : V S6x256) (ix2 i k) = (m (c.tc.loc main_arg3) : V S6x256) (ix2 i k) := by
  have h := idx4 t
  blk_ext! [iblk, V_main_arg3, h]

theorem blk6 (i : Fin 6) (k : Fin 268) : (iblk m c 6 t : V S6x268) (ix2 i k) = (m (c.tc.loc main_arg5) : V S6x268) (ix2 i k) := by
  have h := idx6 t
  blk_ext! [iblk, V_main_arg5, h]

theorem blk3 (i : Fin 6) : (iblk m c 3 t : V S1x6) (ix2 0 i) = (m (c.tc.loc main_arg2) : V S6) (ix1 i) := by
  have h := idx3 t
  have e : (Gen.V m c main_v0 : V S1x6) (ix2 0 i) = (m (c.tc.loc main_arg2) : V S6) (ix1 i) := by
    entry_read
    pointwise
  rw [← e]
  blk_ext! [iblk, h]

theorem blk5 (i : Fin 6) : (iblk m c 5 t : V S1x6) (ix2 0 i) = (m (c.tc.loc main_arg4) : V S6) (ix1 i) := by
  have h := idx5 t
  have e : (Gen.V m c main_v1 : V S1x6) (ix2 0 i) = (m (c.tc.loc main_arg4) : V S6) (ix1 i) := by
    entry_read
    pointwise
  rw [← e]
  blk_ext! [iblk, h]

theorem blk7 (i : Fin 6) : (iblk m c 7 t : V S1x6) (ix2 0 i) = (m (c.tc.loc main_arg6) : V S6) (ix1 i) := by
  have h := idx7 t
  have e : (Gen.V m c main_v2 : V S1x6) (ix2 0 i) = (m (c.tc.loc main_arg6) : V S6) (ix1 i) := by
    entry_read
    pointwise
  rw [← e]
  blk_ext! [iblk, h]

/-- The table of keys, whole. -/
theorem blk1 : (iblk m c 1 t : K) = keys := by
  have h := idx1 t
  funext j
  have e : ∀ i : S216x9.Idx, (Gen.V m c main_c : K) i = keys i := fun i => by
    entry_read
    rfl
  rw [← e]
  blk_ext! [iblk, h]

end Cert.KerBlocks
-- ==== Proof.KerValue.lean ====
/- The kernel's result at an index: the mean it computes, each sample's weight divided by the sum of its exponentials. -/
module

public import proofs.«01_k».proof.Proof.KerPick
public import proofs.«01_k».proof.Proof.KerBlocks

@[expose] public section

set_option maxRecDepth 16384

noncomputable section

namespace Cert.KerValue

open Idealize.ShloMosaic Idealize.ShloMosaic.TcCoe Cert.KernelIdeal Cert.KernelIdeal.Gen Cert.Spec Cert.KerBody Cert.KerKeys Cert.KerOps
  Cert.KerBlocks

/-- The mean as the kernel computes it: weights `w`, unnormalised shares `e`. -/
def meanK (w : Fin 18 → EReal) (v : Fin 18 → Fin 6 → EReal) (j : Fin 6) : EReal :=
  Ideal.div (∑ s, Ideal.div (w s) (∑ k, rise (v s) k) * rise (v s) j) (∑ s, w s)

/-- The kernel's mean distribution at state `i`. -/
def outK (x : A2 4096 256) (w1 : A2 6 256) (b1 : A1 6) (w2 : A2 6 256) (b2 : A1 6) (w : A2 6 268) (b : A1 6) (i : Fin 4096)
    (j : Fin 6) : EReal :=
  meanK (fun s => prob (dist x w1 b1) (act 0 (dist x w1 b1) s i) * prob (dist x w2 b2) (act 1 (dist x w2 b2) s i))
    (fun s => agent x w b i (act 0 (dist x w1 b1) s i) (act 1 (dist x w2 b2) s i)) j

theorem inner_apply (w : V S6x268) (x : V S1024x256) (j : Fin 6) (l : Fin 1024) :
    k0_pay65 (F := Ideal) (k0_pay49 (F := Ideal) w) x (ix2 j l) = ∑ k : Fin 256, x (ix2 l k) * w (ix2 j ⟨k, by omega⟩) := by
  pointwise [k0_pay65, k0_pay49]
  exact Finset.sum_congr rfl fun k _ => mul_comm _ _

section

variable {x : V S1024x256} {w1 : V S6x256} {b1 : V S1x6} {X : A2 4096 256} {W1 : A2 6 256} {B1 : A1 6} {n : Fin 4096} {l : Fin 1024}

theorem score_eq (hx : ∀ k, x (ix2 l k) = X (ix2 n k)) (hw : ∀ c k, w1 (ix2 c k) = W1 (ix2 c k)) (hb : ∀ c, b1 (ix2 0 c) = B1 (ix1 c)) :
    score x w1 b1 l = logit X W1 B1 n := by
  funext c
  simp only [score, logit, hx, hw, hb]

/-- The block at an index, from what its blocks are parts of. -/
theorem body_apply (i : grid0.Coords) {w2 : V S6x256} {b2 : V S1x6} {w : V S6x268} {b : V S1x6} {t1 t2 : V S1x8}
    {W2 : A2 6 256} {B2 : A1 6} {W : A2 6 268} {B : A1 6} (hn : n.val = 1024 * (i 0).val + l)
    (hx : ∀ k, x (ix2 l k) = X (ix2 n k)) (hw1 : ∀ c k, w1 (ix2 c k) = W1 (ix2 c k)) (hb1 : ∀ c, b1 (ix2 0 c) = B1 (ix1 c))
    (hw2 : ∀ c k, w2 (ix2 c k) = W2 (ix2 c k)) (hb2 : ∀ c, b2 (ix2 0 c) = B2 (ix1 c))
    (hw : ∀ c k, w (ix2 c k) = W (ix2 c k)) (hb : ∀ c, b (ix2 0 c) = B (ix1 c))
    (ht1 : ∀ k : Fin 6, t1 (ix2 0 ⟨k, by omega⟩) = prob (dist X W1 B1) k)
    (ht2 : ∀ k : Fin 6, t2 (ix2 0 ⟨k, by omega⟩) = prob (dist X W2 B2) k) (j : Fin 6) :
    body i x keys w1 b1 w2 b2 w b t1 t2 (ix2 l j) = outK X W1 B1 W2 B2 W B n j := by
  have hc1 : ∀ s, choice1 x w1 b1 (table i keys) (ix2 s l) = code (act 0 (dist X W1 B1) s n) := fun s => by
    rw [choice1_apply, score_eq hx hw1 hb1]
    refine congrArg code (congrArg pick (funext fun c => congrArg (· + _) ?_))
    rw [← table_noise i 0 c s l n hn]
    exact congrArg (table i keys) (congrArg (ix2 · l) (Fin.ext (by simp [rowOf])))
  have hc2 : ∀ s, choice2 x w2 b2 (table i keys) (ix2 s l) = code (act 1 (dist X W2 B2) s n) := fun s => by
    rw [choice2_apply, score_eq hx hw2 hb2]
    refine congrArg code (congrArg pick (funext fun c => congrArg (· + _) ?_))
    rw [← table_noise i 1 c s l n hn]
    exact congrArg (table i keys) (congrArg (ix2 · l) (Fin.ext (by simp [rowOf])))
  unfold body
  generalize choice1 x w1 b1 (table i keys) = a at hc1 ⊢
  generalize choice2 x w2 b2 (table i keys) = c at hc2 ⊢
  have hy : ∀ j, k0_pay65 (F := Ideal) (k0_pay49 (F := Ideal) w) x (ix2 j l) = ∑ k : Fin 256, X (ix2 n k) * W (ix2 j ⟨k, by omega⟩) := fun j => by
    simp only [inner_apply, hx, hw]
  generalize k0_pay65 (F := Ideal) (k0_pay49 (F := Ideal) w) x = y at hy ⊢
  have hp : ∀ s (j : Fin 6), part w a c y b j s l + k0_pay136 c (ix2 s l) * w (ix2 j 267)
      = agent X W B n (act 0 (dist X W1 B1) s n) (act 1 (dist X W2 B2) s n) j := fun s j => by
    rw [part_eq w a c y b j s l (hc1 s) (hc2 s), hy, hw, hw, hb]
    rfl
  have h : Are w c (logit0 w a c y b) (logit1 w a c y b) (logit2 w a c y b) (logit3 w a c y b) (logit4 w a c y b) (logit5 w a c y b) l
      (fun s => agent X W B n (act 0 (dist X W1 B1) s n) (act 1 (dist X W2 B2) s n)) := fun s => by
    rw [logit0_apply, logit1_apply, logit2_apply, logit3_apply, logit4_apply, logit5_apply]
    exact ⟨hp s 0, hp s 1, hp s 2, hp s 3, hp s 4, hp s 5⟩
  rw [mix_apply h]
  simp only [weigh1_apply t1 a _ l (hc1 _), weigh2_apply t2 c _ l (hc2 _), ht1, ht2]
  rfl

end

section

variable (m : (ℓ : Loc nD τ sig) → Buf (Elt Ideal) ℓ) (d : Dev nD)

theorem first_lt : 0 < cfg0.N := by decide

/-- The first point. -/
def t0 : Fin cfg0.N := ⟨0, first_lt⟩

/-- The scratch keeps the first point's two rows. -/
theorem kept : ∀ (n : ℕ) (hn : n < cfg0.N),
    View.ld (Val := Elt Ideal) (e' := .f32) (outsAt0 m d n hn).2 (Rect.unit ![0, 0] S1x8.size inb_S2x8_S1x8_0_0)
        = row1 (iblk m d 0 t0) (iblk m d 2 t0) (iblk m d 3 t0)
      ∧ View.ld (Val := Elt Ideal) (e' := .f32) (outsAt0 m d n hn).2 (Rect.unit ![1, 0] S1x8.size inb_S2x8_S1x8_1_0)
        = row2 (iblk m d 0 t0) (iblk m d 4 t0) (iblk m d 5 t0)
  | 0, hn => by
    rw [outsAt0_A m d ⟨0, hn⟩ rfl]
    dsimp only
    rw [kept1, kept2]
    exact ⟨rfl, rfl⟩
  | n + 1, hn => by
    have h4 : n + 1 < 4 := hn.trans_eq N_0
    rw [outsAt0_B m d ⟨n + 1, hn⟩ (by simp only; omega)]
    exact kept n (Nat.lt_of_succ_lt hn)

/-- What a point stores. -/
theorem stored (n : ℕ) (hn : n < cfg0.N) : (outsAt0 m d n hn).1
    = body (grid0.coords ⟨n, hn⟩) (iblk m d 0 ⟨n, hn⟩) (iblk m d 1 ⟨n, hn⟩) (iblk m d 2 ⟨n, hn⟩) (iblk m d 3 ⟨n, hn⟩) (iblk m d 4 ⟨n, hn⟩)
        (iblk m d 5 ⟨n, hn⟩) (iblk m d 6 ⟨n, hn⟩) (iblk m d 7 ⟨n, hn⟩) (row1 (iblk m d 0 t0) (iblk m d 2 t0) (iblk m d 3 t0))
        (row2 (iblk m d 0 t0) (iblk m d 4 t0) (iblk m d 5 t0)) := by
  have h4 : n < 4 := hn.trans_eq N_0
  cases n with
  | zero =>
    rw [outsAt0_A m d ⟨0, hn⟩ rfl]
    dsimp only
    rw [out_A]
    rfl
  | succ n =>
    obtain ⟨k1, k2⟩ := kept m d (n + 1 - 1) (Nat.lt_of_succ_lt hn)
    rw [outsAt0_B m d ⟨n + 1, hn⟩ (by simp only; omega)]
    dsimp only
    rw [out_B, k1, k2]

/-- The kernel's result at an index. -/
theorem G8_apply (i : Fin 4096) (j : Fin 6) : (Value.G8 m d : V S4096x6) (ix2 i j)
    = outK (m (d.tc.loc main_arg0)) (m (d.tc.loc main_arg1)) (m (d.tc.loc main_arg2)) (m (d.tc.loc main_arg3)) (m (d.tc.loc main_arg4))
        (m (d.tc.loc main_arg5)) (m (d.tc.loc main_arg6)) i j := by
  have hq : Value.pt8Of (ix2 i j) = i.val / 1024 := by
    show 1 * (i.val / 1024 - 0) + 1 * (j.val / 6 - 0) = _
    omega
  have hlt : i.val / 1024 < cfg0.N := by rw [show cfg0.N = 4 from N_0]; omega
  have hl : Value.loc8Of (ix2 i j) = ix2 ⟨i.val % 1024, Nat.mod_lt _ (by omega)⟩ j := by
    funext a
    fin_cases a
    · rfl
    · exact Fin.ext (Nat.mod_eq_of_lt j.isLt)
  have h1 : (Value.G8 m d : V S4096x6) (ix2 i j) = (outsAt0 m d (i.val / 1024) hlt).1 (ix2 ⟨i.val % 1024, Nat.mod_lt _ (by omega)⟩ j) := by
    unfold Value.G8
    rw [dif_pos (by rw [hq]; exact hlt), hl]
    refine congrFun (congrArg Prod.fst ?_) _
    rw [Value.outsAt0_sweep]
    exact Value.fold0_congr m d _ _ _ _ hq
  rw [h1, stored, blk1]
  have hrow : ∀ k : Fin 6, ((⟨k, by omega⟩ : Fin 4096)).val = 1024 * t0.val + ((⟨k, by omega⟩ : Fin 1024)).val := fun k => by
    simp [t0]
  refine body_apply (grid0.coords ⟨i.val / 1024, hlt⟩) ?_ (fun k => blk0 m d ⟨i.val / 1024, hlt⟩ _ k i ?_) (blk2 m d _) (blk3 m d _) (blk4 m d _)
    (blk5 m d _) (blk6 m d _) (blk7 m d _) (fun k => ?_) (fun k => ?_) j
  · rw [coord]
    exact (Nat.div_add_mod _ _).symm
  · exact (Nat.div_add_mod _ _).symm
  · rw [row1_apply, score_eq (fun c => blk0 m d t0 _ c _ (hrow k)) (blk2 m d t0) (blk3 m d t0)]
    rfl
  · rw [row2_apply, score_eq (fun c => blk0 m d t0 _ c _ (hrow k)) (blk4 m d t0) (blk5 m d t0)]
    rfl

end

end Cert.KerValue
-- ==== Proof.Equation.lean ====
/- The kernel's mean and the reference's are one number. -/
module

public import proofs.«01_k».proof.Proof.KerValue

@[expose] public section

noncomputable section

namespace Cert.Equation

open Idealize.ShloMosaic Cert.Spec Cert.KerOps Cert.KerValue

/-! ## Extended reals -/

/-- A weight: minus infinity (zero by zero), or not negative. -/
def Weight (w : EReal) : Prop := w = ⊥ ∨ 0 ≤ w

theorem Weight.mul {a b : EReal} (ha : Weight a) (hb : Weight b) : Weight (a * b) := by
  rcases ha with rfl | ha
  · rcases hb with rfl | hb
    · exact .inr (by simp)
    · rcases hb.eq_or_lt with rfl | hb
      · exact .inr (by simp)
      · exact .inl (EReal.bot_mul_of_pos hb)
  · rcases hb with rfl | hb
    · rcases ha.eq_or_lt with rfl | ha
      · exact .inr (by simp)
      · exact .inl (EReal.mul_bot_of_pos ha)
    · exact .inr (mul_nonneg ha hb)

theorem exp_nonneg (a : EReal) : 0 ≤ Ideal.exp a := by
  induction a with
  | bot => exact le_rfl
  | top => exact le_top
  | coe r => exact EReal.coe_nonneg.mpr (Real.exp_pos r).le

theorem Weight.div {a b : EReal} (ha : 0 ≤ a) (hb : 0 ≤ b) : Weight (Ideal.div a b) := by
  unfold Ideal.div
  split
  · split
    · exact .inr le_top
    · exact .inl rfl
  · exact .inr (mul_nonneg ha (EReal.inv_nonneg_of_nonneg hb))

theorem prob_weight (x : A2 4096 256) (w : A2 6 256) (b : A1 6) (k : Fin 6) : Weight (prob (dist x w b) k) :=
  Weight.div (exp_nonneg _) (Finset.sum_nonneg fun _ _ => exp_nonneg _)

/-- A value that is a real. -/
def IsReal (a : EReal) : Prop := ∃ r : ℝ, a = r

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.max {a b : EReal} (ha : IsReal a) (hb : IsReal b) : IsReal (max a b) := by
  rcases max_choice a b with h | h
  · rwa [h]
  · rwa [h]

theorem IsReal.sum {n : ℕ} {f : Fin n → EReal} (h : ∀ k, IsReal (f k)) : IsReal (∑ k, f k) :=
  Finset.sum_induction f IsReal (fun _ _ => IsReal.add) ⟨0, rfl⟩ fun k _ => h k

theorem sum_coe {n : ℕ} (f : Fin n → ℝ) : ∑ k, ((f k : ℝ) : EReal) = ((∑ k, f k : ℝ) : EReal) := by
  induction n with
  | zero => rfl
  | succ n ih => rw [Fin.sum_univ_succ, Fin.sum_univ_succ, ih, EReal.coe_add]

/-! ## A row's shares -/

theorem rise_pos {v : Fin 6 → EReal} (hv : ∀ k, IsReal (v k)) (k : Fin 6) : ∃ r : ℝ, 0 < r ∧ rise v k = r := by
  have ht : IsReal (top6 v) := by
    rw [top6_eq]
    exact (((((hv 0).max (hv 1)).max (hv 2)).max (hv 3)).max (hv 4)).max (hv 5)
  obtain ⟨t, ht⟩ := ht
  obtain ⟨a, ha⟩ := hv k
  refine ⟨Real.exp (a - t), Real.exp_pos _, ?_⟩
  unfold rise
  rw [ha, ht, ← EReal.coe_sub]
  rfl

/-- A share is a positive real, and the kernel's order of dividing and multiplying gives a weight times it. -/
theorem share_pos {v : Fin 6 → EReal} (hv : ∀ k, IsReal (v k)) (j : Fin 6) :
    ∃ q : ℝ, 0 < q ∧ smx v j = q ∧ ∀ w, Ideal.div w (∑ k, rise v k) * rise v j = w * q := by
  choose r hr0 hr using rise_pos hv
  have hs : ∑ k, rise v k = ((∑ k, r k : ℝ) : EReal) := by
    simp only [hr]
    exact sum_coe r
  have hp : 0 < ∑ k, r k := Finset.sum_pos (fun k _ => hr0 k) Finset.univ_nonempty
  have hne : ((∑ k, r k : ℝ) : EReal) ≠ 0 := EReal.coe_ne_zero.mpr hp.ne'
  have he : smx v j = Ideal.div (rise v j) (∑ k, rise v k) := rfl
  refine ⟨r j * (∑ k, r k)⁻¹, mul_pos (hr0 j) (inv_pos.mpr hp), ?_, fun w => ?_⟩
  · rw [he, hs, hr j]
    unfold Ideal.div
    rw [if_neg hne, ← EReal.coe_inv, ← EReal.coe_mul]
  · rw [hs, hr j]
    unfold Ideal.div
    rw [if_neg hne, ← EReal.coe_inv, mul_assoc, ← EReal.coe_mul, mul_comm (∑ k, r k)⁻¹]

/-! ## The mean -/

/-- A sum of weights that is a real is one of reals. -/
theorem reals_of_sum {n : ℕ} {w : Fin n → EReal} (hw : ∀ s, Weight (w s)) (h : IsReal (∑ s, w s)) : ∀ s, ∃ u : ℝ, 0 ≤ u ∧ w s = u := by
  induction n with
  | zero => exact fun s => s.elim0
  | succ n ih =>
    rw [Fin.sum_univ_succ] at h
    obtain ⟨r, h⟩ := h
    have h0 : w 0 ≠ ⊥ := fun e => by simp [e] at h
    have h1 : ∑ s : Fin n, w s.succ ≠ ⊥ := fun e => by simp [e] at h
    have h0' : w 0 ≠ ⊤ := fun e => by
      rw [e, EReal.top_add_of_ne_bot h1] at h
      simp at h
    have h1' : ∑ s : Fin n, w s.succ ≠ ⊤ := fun e => by
      rw [e, EReal.add_top_of_ne_bot h0] at h
      simp at h
    intro s
    refine Fin.cases ?_ (fun s => ih (fun s => hw s.succ) ⟨_, (EReal.coe_toReal h1' h1).symm⟩ s) s
    rcases hw 0 with h | h
    · exact absurd h h0
    · exact ⟨(w 0).toReal, EReal.toReal_nonneg h, (EReal.coe_toReal h0' h0).symm⟩

theorem mean_eq {w : Fin 18 → EReal} {v : Fin 18 → Fin 6 → EReal} (hw : ∀ s, Weight (w s)) (hv : ∀ s k, IsReal (v s k)) (j : Fin 6) :
    meanK w v j = mean w (fun s => smx (v s) j) := by
  choose q hq0 hq hm using fun s => share_pos (hv s) j
  unfold meanK mean
  simp only [hm, hq]
  by_cases h : IsReal (∑ s, w s)
  · choose u hu0 hu using reals_of_sum hw h
    simp only [hu, sum_coe, ← EReal.coe_mul]
    by_cases hz : ∑ s, u s = 0
    · have hu' : ∀ s, u s = 0 := fun s => (Finset.sum_eq_zero_iff_of_nonneg fun s _ => hu0 s).mp hz s (Finset.mem_univ s)
      have hb : ∀ s, (⊥ : EReal) * (q s : EReal) = ⊥ := fun s => EReal.bot_mul_coe_of_pos (hq0 s)
      simp [hu', Ideal.div, hb]
      exact (EReal.mul_bot_of_pos (by norm_num)).symm
    · have hne : ((∑ s, u s : ℝ) : EReal) ≠ 0 := EReal.coe_ne_zero.mpr hz
      simp only [Ideal.div, if_neg hne, ← EReal.coe_inv, ← EReal.coe_mul, sum_coe]
      rw [Finset.sum_mul]
      exact congrArg _ (Finset.sum_congr rfl fun s _ => mul_right_comm _ _ _)
  · have hi : (∑ s, w s)⁻¹ = 0 ∧ ∑ s, w s ≠ 0 := by
      generalize ∑ s, w s = N at h
      induction N with
      | bot => exact ⟨EReal.inv_bot, by simp⟩
      | top => exact ⟨EReal.inv_top, by simp⟩
      | coe r => exact absurd ⟨r, rfl⟩ h
    simp only [Ideal.div, if_neg hi.2, hi.1, mul_zero, zero_mul, Finset.sum_const_zero]

/-- For finite observations and agent parameters the two results are one. -/
theorem out_eq (x : A2 4096 256) (w1 : A2 6 256) (b1 : A1 6) (w2 : A2 6 256) (b2 : A1 6) (w : A2 6 268) (b : A1 6) (i : Fin 4096)
    (j : Fin 6) (hx : ∀ i k, IsReal (x (ix2 i k))) (hw : ∀ i k, IsReal (w (ix2 i k))) (hb : ∀ i, IsReal (b (ix1 i))) :
    outK x w1 b1 w2 b2 w b i j = out x w1 b1 w2 b2 w b i j :=
  mean_eq (fun _ => (prob_weight _ _ _ _).mul (prob_weight _ _ _ _))
    (fun _ _ => ((IsReal.sum fun _ => (hx _ _).mul (hw _ _)).add ((hw _ _).add (hw _ _))).add (hb _)) j

end Cert.Equation
-- ==== Proof.PreFacts.lean ====
/- What the precondition says: the observations and the agent's parameters are reals. -/
module

public import proofs.«01_k».proof.Pre_finite_inputs
public import proofs.«01_k».proof.Proof.Equation
public import Idealize.ShloMosaic.Lib.ReduceAll
public import Idealize.ShloMosaic.Lib.Affine

@[expose] public section

noncomputable section

namespace Cert.PreFacts

open Idealize.ShloMosaic Cert.Spec Cert.Equation

/-- The facts about shapes that the precondition takes. -/
theorem facts : Cert.Pre_finite_inputs.Facts where
  bcast_S_S4096x256 := by decide
  reducesTo_S4096x256_S_d0_1 := by decide
  h_S_ := by decide
  bcast_S_S6x268 := by decide
  reducesTo_S6x268_S_d0_1 := by decide
  bcast_S_S6 := by decide
  reducesTo_S6_S_d0 := by decide

/-- The word of plus infinity. -/
theorem posInf : Ideal.ofBits .f32 0x7F800000#32 = ⊤ := by
  have h1 : (0x7F800000#32 : BitVec 32).extractLsb' 31 1 = 0#1 := by decide
  have h2 : ((0x7F800000#32 : BitVec 32).extractLsb' 23 8).toNat = 255 := by decide
  have h3 : ((0x7F800000#32 : BitVec 32).extractLsb' 0 23).toNat = 0 := by decide
  show Ideal.ieee 8 23 (0x7F800000#32 : BitVec 32) = ⊤
  unfold Ideal.ieee
  simp only [show 8 + 23 = 31 from rfl, h1, h2, h3]
  norm_num

/-- A value whose absolute value lies below plus infinity is a real. -/
theorem real_of_abs {a : EReal} (h : BitVec.ofBool (decide (max a (-a) < Ideal.ofBits .f32 0x7F800000#32)) = 1#1) : IsReal a := by
  rw [posInf] at h
  induction a with
  | bot => simp at h
  | top => simp at h
  | coe r => exact ⟨r, rfl⟩

theorem reals (x : A2 4096 256) (w1 : A2 6 256) (b1 : A1 6) (w2 : A2 6 256) (b2 : A1 6) (w : A2 6 268) (b : A1 6)
    (h : @Cert.Pre_finite_inputs.fn facts Ideal _ x w1 b1 w2 b2 w b = fun _ => 1#1) :
    (∀ i k, IsReal (x (ix2 i k))) ∧ (∀ i k, IsReal (w (ix2 i k))) ∧ ∀ i, IsReal (b (ix1 i)) := by
  have h := congrFun h (Shape.Idx.first facts.h_S_)
  unfold Cert.Pre_finite_inputs.fn at h
  dsimp only at h
  obtain ⟨h, h3⟩ := IntOp.andi_eq_one.mp h
  obtain ⟨h1, h2⟩ := IntOp.andi_eq_one.mp h
  haveI : Subsingleton Cert.Pre_finite_inputs.S_.Idx := ⟨fun a b => funext fun i => i.elim0⟩
  refine ⟨fun i k => ?_, fun i k => ?_, fun i => ?_⟩
  · exact real_of_abs (Host.reduce_andi_all _ _ _ _ _ h1 (ix2 i k))
  · exact real_of_abs (Host.reduce_andi_all _ _ _ _ _ h2 (ix2 i k))
  · exact real_of_abs (Host.reduce_andi_all _ _ _ _ _ h3 (ix1 i))

end Cert.PreFacts
-- ==== Proof.lean ====
/- The kernel and the reference compute the same mean distribution: the certificate's claims, assembled from the modules.
   `Value.run` and `KerValue` state what the kernel's result holds, `RefMain.run` what the reference's holds, `Equation`
   that the two agree when states and the agent's parameters are finite, `PreFacts` that the precondition says they are. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefMain
public import proofs.«01_k».proof.Proof.KerValue
public import proofs.«01_k».proof.Proof.Equation
public import proofs.«01_k».proof.Proof.PreFacts
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments as launched and ends with no semaphore raised: it has none. -/
theorem reference_frame : quiescent_ReferenceIdeal (hReferenceIdeal := Cert.ReferenceIdeal.Gen.facts) := fun m g _ => by
  refine θ_run_mono (Cert.RefMain.run m g) fun r hr => ⟨fun c => ?_, sem_eq_zero_of_no_sems (by decide) _⟩
  obtain ⟨W, -, hm, ha⟩ := hr c
  exact ⟨(hm _).trans (ha _ (by decide)), (hm _).trans (ha _ (by decide)), (hm _).trans (ha _ (by decide)),
    (hm _).trans (ha _ (by decide)), (hm _).trans (ha _ (by decide)), (hm _).trans (ha _ (by decide)),
    (hm _).trans (ha _ (by decide))⟩

/-- From the same finite arguments the kernel and the reference end with the same mean distribution. -/
theorem same_mean : algebraic_KernelIdeal_ReferenceIdeal_pre_finite_inputs (hKernelIdeal := Cert.KernelIdeal.Gen.facts)
    (hReferenceIdeal := Cert.ReferenceIdeal.Gen.facts) (hPre_finite_inputs := Cert.PreFacts.facts) := by
  intro m g m' g' hpre hagree
  refine ⟨Cert.KernelIdeal.Value.G8 m, Cert.KernelIdeal.Value.run m g,
    θ_run_mono (Cert.RefMain.run m' g') fun r hr c => ?_⟩
  obtain ⟨W, hV, hm, ha⟩ := hr c
  obtain ⟨e0, e1, e2, e3, e4, e5, e6⟩ := hagree c
  have f0 := ha Cert.ReferenceIdeal.main_arg0 (by decide)
  have f1 := ha Cert.ReferenceIdeal.main_arg1 (by decide)
  have f2 := ha Cert.ReferenceIdeal.main_arg2 (by decide)
  have f3 := ha Cert.ReferenceIdeal.main_arg3 (by decide)
  have f4 := ha Cert.ReferenceIdeal.main_arg4 (by decide)
  have f5 := ha Cert.ReferenceIdeal.main_arg5 (by decide)
  have f6 := ha Cert.ReferenceIdeal.main_arg6 (by decide)
  refine ⟨(hm _).trans ?_, (hm _).trans f0, (hm _).trans f1, (hm _).trans f2, (hm _).trans f3, (hm _).trans f4,
    (hm _).trans f5, (hm _).trans f6⟩
  obtain ⟨hx, hw, hb⟩ := Cert.PreFacts.reals _ _ _ _ _ _ _ (hpre c)
  refine funext fun k => ?_
  obtain ⟨i, j, rfl⟩ : ∃ i j, k = ix2 i j := ⟨k 0, k 1, eq_ix2 _⟩
  rw [hV i j, Cert.KerValue.G8_apply, f0, f1, f2, f3, f4, f5, f6, e0, e1, e2, e3, e4, e5, e6]
  exact (Cert.Equation.out_eq _ _ _ _ _ _ _ i j hx hw hb).symm

theorem claim : Cert.Claim :=
  ⟨Cert.Kernel.Gen.facts, Cert.KernelIdeal.Gen.facts, Cert.ReferenceIdeal.Gen.facts, Cert.PreFacts.facts,
    fun m g _ => Cert.Kernel.Gen.frame m g, fun m g _ => Cert.KernelIdeal.Gen.frame m g,
    fun m g _ => Cert.KernelIdeal.Gen.frame m g, reference_frame, fun m g _ => reference_frame m g trivial, trivial,
    same_mean⟩

end Cert.Proof

end
